-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x256 : Shape := ⟨2, ![2048, 256]⟩
abbrev S8x256x256 : Shape := ⟨3, ![8, 256, 256]⟩
abbrev S8 : Shape := ⟨1, ![8]⟩
abbrev S_ : Shape := ⟨0, ![]⟩
abbrev S256x256 : Shape := ⟨2, ![256, 256]⟩
abbrev S1x256x256 : Shape := ⟨3, ![1, 256, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x256, .bf16⟩
  | .local _ .vmem, ⟨0, _⟩ => ⟨S256x2048, .bf16⟩
  | .local _ .vmem, ⟨1, _⟩ => ⟨S2048x256, .bf16⟩
  | .local _ .vmem, ⟨2, _⟩ => ⟨S8x256x256, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_70 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v96 : BitVec 32 := Scalar.addi v2 c1_i32_70
  let c8_i32_71 : BitVec 32 := 8#32
  let v97 : BitVec 32 := Scalar.remsi v96 c8_i32_71
  ![v97.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v98 : BitVec 32 := Scalar.muli v2 c256_i32
  let c0_i32_74 : BitVec 32 := 0#32
  ![v98.toNat, 0]
def k0_off4 (d0 : Dev nD) (c1_i32_70 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v96 : BitVec 32 := Scalar.addi v2 c1_i32_70
  let c8_i32_71 : BitVec 32 := 8#32
  let v97 : BitVec 32 := Scalar.remsi v96 c8_i32_71
  let c0_i32_75 : BitVec 32 := 0#32
  let c0_i32_76 : BitVec 32 := 0#32
  ![v97.toNat, 0, 0]
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v96 : BitVec 32 := Scalar.addi v2 c1_i32_70
  let c8_i32_71 : BitVec 32 := 8#32
  let v97 : BitVec 32 := Scalar.remsi v96 c8_i32_71
  let c1_i32_72 : BitVec 32 := 1#32
  let v99 : BitVec 32 := Scalar.muli v97 c1_i32_72
  let v100 : BitVec 32 := Scalar.addi c0_i32_73 v99
  v100.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v108 : BitVec 32 := Scalar.addi v2 c2_i32_77
  let c8_i32_78 : BitVec 32 := 8#32
  let v109 : BitVec 32 := Scalar.remsi v108 c8_i32_78
  let c1_i32_80 : BitVec 32 := 1#32
  let v111 : BitVec 32 := Scalar.muli v109 c1_i32_80
  let v112 : BitVec 32 := Scalar.addi c0_i32_81 v111
  v112.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_85 : BitVec 32 := 3#32
  let v120 : BitVec 32 := Scalar.addi v2 c3_i32_85
  let c8_i32_86 : BitVec 32 := 8#32
  let v121 : BitVec 32 := Scalar.remsi v120 c8_i32_86
  let c1_i32_88 : BitVec 32 := 1#32
  let v123 : BitVec 32 := Scalar.muli v121 c1_i32_88
  let v124 : BitVec 32 := Scalar.addi c0_i32_89 v123
  v124.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_93 : BitVec 32 := 4#32
  let v132 : BitVec 32 := Scalar.addi v2 c4_i32_93
  let c8_i32_94 : BitVec 32 := 8#32
  let v133 : BitVec 32 := Scalar.remsi v132 c8_i32_94
  let c1_i32_96 : BitVec 32 := 1#32
  let v135 : BitVec 32 := Scalar.muli v133 c1_i32_96
  let v136 : BitVec 32 := Scalar.addi c0_i32_97 v135
  v136.toNat
def k0_dev12 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_101 : BitVec 32 := 5#32
  let v144 : BitVec 32 := Scalar.addi v2 c5_i32_101
  let c8_i32_102 : BitVec 32 := 8#32
  let v145 : BitVec 32 := Scalar.remsi v144 c8_i32_102
  let c1_i32_104 : BitVec 32 := 1#32
  let v147 : BitVec 32 := Scalar.muli v145 c1_i32_104
  let v148 : BitVec 32 := Scalar.addi c0_i32_105 v147
  v148.toNat
def k0_dev13 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_109 : BitVec 32 := 6#32
  let v156 : BitVec 32 := Scalar.addi v2 c6_i32_109
  let c8_i32_110 : BitVec 32 := 8#32
  let v157 : BitVec 32 := Scalar.remsi v156 c8_i32_110
  let c1_i32_112 : BitVec 32 := 1#32
  let v159 : BitVec 32 := Scalar.muli v157 c1_i32_112
  let v160 : BitVec 32 := Scalar.addi c0_i32_113 v159
  v160.toNat
def k0_dev14 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_117 : BitVec 32 := 7#32
  let v168 : BitVec 32 := Scalar.addi v2 c7_i32_117
  let c8_i32_118 : BitVec 32 := 8#32
  let v169 : BitVec 32 := Scalar.remsi v168 c8_i32_118
  let c1_i32_120 : BitVec 32 := 1#32
  let v171 : BitVec 32 := Scalar.muli v169 c1_i32_120
  let v172 : BitVec 32 := Scalar.addi c0_i32_121 v171
  v172.toNat
def k0_off5 (d0 : Dev nD) (c1_i32_126 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_125 : BitVec 32 := 8#32
  let v180 : BitVec 32 := Scalar.addi v2 c8_i32_125
  let v181 : BitVec 32 := Scalar.subi v180 c1_i32_126
  let c8_i32_127 : BitVec 32 := 8#32
  let v182 : BitVec 32 := Scalar.remsi v181 c8_i32_127
  ![v182.toNat]
def k0_off6 (d0 : Dev nD) (c1_i32_126 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_125 : BitVec 32 := 8#32
  let v180 : BitVec 32 := Scalar.addi v2 c8_i32_125
  let v181 : BitVec 32 := Scalar.subi v180 c1_i32_126
  let c8_i32_127 : BitVec 32 := 8#32
  let v182 : BitVec 32 := Scalar.remsi v181 c8_i32_127
  let c256_i32_128 : BitVec 32 := 256#32
  let v183 : BitVec 32 := Scalar.muli v182 c256_i32_128
  let c0_i32_133 : BitVec 32 := 0#32
  ![v183.toNat, 0]
abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 1
  | .vmem => 0
  | .smem => 0
  | _ => 0

abbrev bufTy : (tb : Table) → Fin (tcTables nBuf tb) → BufTy
  | .hbm, ⟨0, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.SameText.lean ====
/-
# The kernel as printed and the idealized kernel are one program

The idealization rewrote nothing, so the two texts differ in their namespace only. Every part is equal by unfolding, and the
body tables are equal label by label.
-/
module

public import proofs.«01_k».proof.Proof.Gen.Kernel
public import proofs.«01_k».proof.Proof.Gen.KernelIdeal

@[expose] public section

noncomputable section

namespace Cert.Kernel.AllToAll

open Idealize.ShloMosaic Idealize.SL.Sem

variable {F : FTy → Type} [FloatOps F]

/-- The two kernels' body tables are equal. -/
theorem defs₀_eq : (@Cert.Kernel.defs₀ F _ : Defs Cert.Kernel.nD Cert.Kernel.τ Cert.Kernel.sig (Elt F) Cert.Kernel.Λ₀)
    = @Cert.KernelIdeal.defs₀ F _ := by
  refine congrArg Defs.onTc (funext fun ℓ => funext fun a => ?_)
  match ℓ, a with
  | 0, (t, s) => rfl

/-- So are the tables with the pipeline's own labels. -/
theorem defs_eq : (@Cert.Kernel.defs F _ : Defs Cert.Kernel.nD Cert.Kernel.τ Cert.Kernel.sig (Elt F)
      (Pipeline.Sig Cert.Kernel.Λ₀ (Fin 1) fun p => (Cert.Kernel.pcfgs (F := F) p).Adm))
    = @Cert.KernelIdeal.defs F _ :=
  congrArg (Pipeline.defs Cert.Kernel.pcfgs) defs₀_eq

end Cert.Kernel.AllToAll

end
-- ==== Proof.Reference.lean ====
/-
# The reference's run

The reference returns its argument: no operation runs, so it ends with every buffer as it was.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Identity

open Cert.ReferenceIdeal Cert.ReferenceIdeal.Gen
open Idealize.ShloMosaic Idealize.ShloMosaic.StableHlo Idealize.SL.Sem

variable {F : FTy → Type} [FloatOps F]

/-- The reference ends, its array as it was and every counter at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
      ∧ r.2.sem = fun _ => 0) :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.ReferenceIdeal.Identity

end
-- ==== Proof.Pieces.lean ====
/-
# The pieces of the all-to-all: row blocks, slabs, and what they hold

Device `c` starts from `x c`, a `256 × 2048` block of rows. It packs column block `j` of it into slab `j` of its
`8 × 256 × 256` scratch buffer, and row block `s` of its `2048 × 256` output is to hold column block `c` of device `s`'s
rows. This module names those blocks as the kernel names them (slices of the buffers), names the contents the buffers are
to hold (`commOf`, `outOf`), and proves of each store and of the transfer that it leaves those contents.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdeal.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers, and their blocks as the kernel slices them -/

/-- The staged input, the staged output and the packing scratch. -/
abbrev xM : Memref sig .tc .vmem S256x2048 .bf16 := Memref.whole cc0_stg0_0
abbrev oM : Memref sig .tc .vmem S2048x256 .bf16 := Memref.whole cc0_stg1_0
abbrev cM : Memref sig .tc .vmem S8x256x256 .bf16 := Memref.whole cc0_scratch0

/-- Rows `256 s` to `256 s + 255` fit in the output, for each of the eight `s`. -/
theorem rows_inb (s : Dev nD) : ∀ a, (![256 * s.val, 0] : Fin 2 → Nat) a + S256x256.size a ≤ S2048x256.size a := by
  revert s; decide
/-- Slab `j` fits in the scratch, for each of the eight `j`. -/
theorem slab_inb (j : Dev nD) : ∀ a, (![j.val, 0, 0] : Fin 3 → Nat) a + S1x256x256.size a ≤ S8x256x256.size a := by
  revert j; decide
/-- Column block `j` fits in the input, for each of the eight `j`. -/
theorem cols_inb (j : Dev nD) : ∀ a, (![0, 256 * j.val] : Fin 2 → Nat) a + S256x256.size a ≤ S256x2048.size a := by
  revert j; decide

abbrev rowRect (s : Dev nD) : Rect S2048x256 := Rect.unit (s := S2048x256) ![256 * s.val, 0] S256x256.size (rows_inb s)
abbrev slabRect (j : Dev nD) : Rect S8x256x256 := Rect.unit (s := S8x256x256) ![j.val, 0, 0] S1x256x256.size (slab_inb j)
abbrev colRect (j : Dev nD) : Rect S256x2048 := Rect.unit (s := S256x2048) ![0, 256 * j.val] S256x256.size (cols_inb j)

/-- Row block `s` of the output and slab `j` of the scratch, as the transfers name them. -/
abbrev oRow (s : Dev nD) : Memref sig .tc .vmem S256x256 .bf16 := oM.slice (rowRect s) (fun _ => rfl)
abbrev cSlab (j : Dev nD) : Memref sig .tc .vmem S256x256 .bf16 :=
  ((cM.slice (slabRect j) (fun _ => rfl)).squeeze S256x256 squeezes_S1x256x256_S256x256)

/-! ## The contents -/

/-- What a device packs: slab `j` is column block `j` of its rows `x`. -/
def commOf (x : S256x2048.Idx → Elt F .bf16) : S8x256x256.Idx → Elt F .bf16 := fun i =>
  x (ix2 (n0 := 256) (n1 := 2048) (i 1)
    ⟨256 * (i 0).val + (i 2).val, by have h0 : (i 0).val < 8 := (i 0).isLt; have h2 : (i 2).val < 256 := (i 2).isLt; omega⟩)

/-- What device `c` ends with: row block `s` is column block `c` of device `s`'s rows `X s`. -/
def outOf (X : Dev nD → S256x2048.Idx → Elt F .bf16) (c : Dev nD) : S2048x256.Idx → Elt F .bf16 := fun i =>
  X ⟨(i 0).val / 256, by have h0 : (i 0).val < 2048 := (i 0).isLt; show _ < 8; omega⟩
    (ix2 (n0 := 256) (n1 := 2048) ⟨(i 0).val % 256, Nat.mod_lt _ (by decide)⟩
      ⟨256 * c.val + (i 1).val, by have hc : c.val < 8 := c.isLt; have h1 : (i 1).val < 256 := (i 1).isLt; omega⟩)

/-! ## Which elements the blocks are -/

omit [FloatOps F] in
theorem mem_rows (s : Dev nD) (i : S2048x256.Idx) : i ∈ (rowRect s).set ↔ (i 0).val / 256 = s.val := by
  rw [Rect.mem_set_unit, Fin.forall_fin_two]
  have h1 : (i 1).val < 256 := (i 1).isLt
  show (256 * s.val ≤ (i 0).val ∧ (i 0).val < 256 * s.val + 256) ∧ (0 ≤ (i 1).val ∧ (i 1).val < 0 + 256) ↔ _
  omega

omit [FloatOps F] in
theorem mem_slab (j : Dev nD) (i : S8x256x256.Idx) : i ∈ (slabRect j).set ↔ (i 0).val = j.val := by
  rw [Rect.mem_set_unit]
  have h1 : (i 1).val < 256 := (i 1).isLt
  have h2 : (i 2).val < 256 := (i 2).isLt
  constructor
  · intro h
    have := h 0
    have e : (![j.val, 0, 0] : Fin 3 → Nat) 0 = j.val := rfl
    have e' : S1x256x256.size 0 = 1 := rfl
    omega
  · intro h a
    fin_cases a
    · show j.val ≤ (i 0).val ∧ (i 0).val < j.val + 1
      omega
    · show 0 ≤ (i 1).val ∧ (i 1).val < 0 + 256
      omega
    · show 0 ≤ (i 2).val ∧ (i 2).val < 0 + 256
      omega

omit [FloatOps F] in
theorem oRow_set (s : Dev nD) : (oRow s).view.set = (rowRect s).set := View.set_slice_whole _ _
omit [FloatOps F] in
theorem cSlab_set (j : Dev nD) : (cSlab j).view.set = (slabRect j).set :=
  (View.set_reshape _ _).trans (View.set_slice_whole _ _)

/-! ## Each store and the transfer leave the contents named -/

omit [FloatOps F] in
/-- Element `(a, b)` of slab `j`, seen through the squeezed slice, is element `(j, a, b)` of the scratch. -/
theorem cSlab_read (j : Dev nD) (f : S8x256x256.Idx → Elt F .bf16) (a b : Fin 256) :
    (cSlab j).view.read (Elt F) f (ix2 a b) = f (ix3 (n0 := 8) (n1 := 256) (n2 := 256) j a b) := by
  show f ((slabRect j).emb (Shape.reshapeEquiv _ (ix2 a b))) = _
  congr 1
  rw [show (Shape.reshapeEquiv _ (ix2 a b) : S1x256x256.Idx) = ix3 (⟨0, Nat.one_pos⟩ : Fin 1) a b from reshapeEquiv_ix2_1ab _ a b]
  funext k
  fin_cases k <;> refine Fin.ext ?_
  · show j.val + 1 * 0 = j.val; omega
  · show 0 + 1 * a.val = a.val; omega
  · show 0 + 1 * b.val = b.val; omega

omit [FloatOps F] in
/-- A view's write at an element it names: the payload there. -/
theorem write_at {Val : EltTy → Type} {sp : Space} {s : Shape} (v : View sig .tc sp s .bf16) (f : v.ty.Contents Val) (w : s.Idx → Val .bf16)
    (i : v.ty.Idx) (x : s.Idx) (h : v.emb x = i) : v.write Val f w Finset.univ i = _root_.cast (congrArg Val v.elt_eq.symm) (w x) := by
  subst h; exact View.write_emb_of_mem _ _ (Finset.mem_univ _)

/-- The index `(a, b)` of row block `s` in the output. -/
theorem rowRect_emb (s : Dev nD) (i : S2048x256.Idx) (h : (i 0).val / 256 = s.val) :
    (rowRect s).emb (ix2 (n0 := 256) (n1 := 256) ⟨(i 0).val % 256, Nat.mod_lt _ (by decide)⟩ (i 1)) = i := by
  funext k
  fin_cases k <;> refine Fin.ext ?_
  · show 256 * s.val + 1 * ((i 0).val % 256) = (i 0).val; omega
  · show 0 + 1 * (i 1).val = (i 1).val; omega

omit [FloatOps F] in
/-- THE TRANSFER: slab `j` of device `s`, landing on row block `s` of device `j`, leaves there what device `j` is to hold. -/
theorem landed (X : Dev nD → S256x2048.Idx → Elt F .bf16) (s j : Dev nD) (fd : S2048x256.Idx → Elt F .bf16)
    (i : S2048x256.Idx) (hi : i ∈ (oRow s).view.set) :
    (oRow s).view.write (Elt F) fd ((cSlab j).view.read (Elt F) (commOf (X s))) Finset.univ i = outOf X j i := by
  rw [oRow_set, mem_rows] at hi
  rw [write_at (oRow s).view fd _ i _ (rowRect_emb s i hi)]
  refine (cSlab_read j (commOf (X s)) _ (i 1)).trans ?_
  unfold commOf outOf
  rw [show (⟨(i 0).val / 256, _⟩ : Dev nD) = s from Fin.ext hi]

omit [FloatOps F] in
/-- THE OWN BLOCK: device `c` storing its slab `c` on its own row block `c`. -/
theorem own_stored (X : Dev nD → S256x2048.Idx → Elt F .bf16) (c : Dev nD) (hsc : S1x256x256.ShapeCasts S256x256) (fd : S2048x256.Idx → Elt F .bf16)
    (i : S2048x256.Idx) (hi : i ∈ (oRow c).view.set) :
    (oM.access (rowRect c)).write (Elt F) fd
      (shapeCast S256x256 (cM.view.readAt (Elt F) (slabRect c).toLoadRect (commOf (X c))) hsc) Finset.univ i = outOf X c i :=
  landed X c c fd i hi

omit [FloatOps F] in
/-- THE PACKING: after slab `j` is stored, the scratch holds what it is to on slabs `0` to `j` if it did on slabs `0` to `j - 1`. -/
theorem packed (x : S256x2048.Idx → Elt F .bf16) (j : Dev nD) (h₁ : S256x256.ShapeCasts S256x256) (h₂ : S256x256.ShapeCasts S1x256x256)
    (f : S8x256x256.Idx → Elt F .bf16) (hf : ∀ i, (i 0).val < j.val → f i = commOf x i)
    (i : S8x256x256.Idx) (hi : (i 0).val < j.val + 1) :
    (cM.access (slabRect j)).write (Elt F) f
      (shapeCast S1x256x256 (shapeCast S256x256 (xM.view.readAt (Elt F) (colRect j).toLoadRect x) h₁) h₂) Finset.univ i = commOf x i := by
  by_cases hj : (i 0).val = j.val
  · have he : (slabRect j).emb (ix3 (n0 := 1) (n1 := 256) (n2 := 256) ⟨0, Nat.one_pos⟩ (i 1) (i 2)) = i := by
      funext k
      fin_cases k <;> refine Fin.ext ?_
      · show j.val + 1 * 0 = (i 0).val; omega
      · show 0 + 1 * (i 1).val = (i 1).val; omega
      · show 0 + 1 * (i 2).val = (i 2).val; omega
    rw [write_at (cM.access (slabRect j)) f _ i _ he]
    refine (cast_eq rfl _).trans ?_
    refine (shapeCast_apply _ h₂ _ (ix2 (n0 := 256) (n1 := 256) (i 1) (i 2)) ?_).trans ?_
    · rw [Shape.rowMajor_val_three, Shape.rowMajor_val_two]
      show (i 1).val * 256 + (i 2).val = (0 * 256 + (i 1).val) * 256 + (i 2).val
      omega
    refine (shapeCast_apply _ h₁ _ (ix2 (n0 := 256) (n1 := 256) (i 1) (i 2)) rfl).trans ?_
    show x ((colRect j).emb (ix2 (n0 := 256) (n1 := 256) (i 1) (i 2))) = _
    unfold commOf
    congr 1
    funext k
    fin_cases k <;> refine Fin.ext ?_
    · show 0 + 1 * (i 1).val = (i 1).val; omega
    · show 256 * j.val + 1 * (i 2).val = 256 * (i 0).val + (i 2).val; omega
  · rw [View.write_of_not_mem _ _ _ (fun h => hj ((mem_slab j i).mp (by
      rw [← View.set_slice_whole cc0_scratch0 (slabRect j)]; exact h)))]
    exact hf i (by omega)

end Cert.KernelIdeal.AllToAll

end
-- ==== Proof.Schedule.lean ====
/-
# The schedule of the all-to-all: who signals whom, with how much, handing over what

Every device has a barrier cell (the runtime's barrier semaphore), eight send cells and eight receive cells. All their
duties are at round 0:

* device `c`'s barrier cell has one duty of one unit for each other device `d`, paid by `d`'s signal, which hands `c` row
  block `c` of `d`'s output — the place `c`'s transfer to `d` lands;
* device `c`'s send cell `j`, `j ≠ c`, has one duty of the block's credit, which gives `c` its slab `j` back;
* device `c`'s receive cell `s`, `s ≠ c`, has one duty of the block's credit, paid by `s`'s transfer, which gives `c` row
  block `s` of its output holding what it is to hold;
* send cell `c` and receive cell `c` of device `c` are not used and have no duty.
-/
module

public import proofs.«01_k».proof.Proof.Pieces

@[expose] public section

noncomputable section

namespace Cert.KernelIdeal.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The other seven devices, counted up and counted down -/

/-- The device `r + 1` after `c`, and the device `r + 1` before it. -/
def up (c : Dev nD) (r : Fin 7) : Dev nD := ⟨(c.val + r.val + 1) % 8, Nat.mod_lt _ (by decide)⟩
def dn (c : Dev nD) (r : Fin 7) : Dev nD := ⟨(c.val + 7 - r.val) % 8, Nat.mod_lt _ (by decide)⟩

theorem up_dn (c : Dev nD) (r : Fin 7) : up (dn c r) r = c := by revert c r; decide
theorem dn_up (c : Dev nD) (r : Fin 7) : dn (up c r) r = c := by revert c r; decide
theorem up_ne (c : Dev nD) (r : Fin 7) : up c r ≠ c := by revert c r; decide
theorem dn_ne (c : Dev nD) (r : Fin 7) : dn c r ≠ c := by revert c r; decide
theorem up_inj (c : Dev nD) : Function.Injective (up c) := by revert c; decide
theorem dn_inj (c : Dev nD) : Function.Injective (dn c) := by revert c; decide
theorem others_up (c : Dev nD) : Finset.univ.erase c = Finset.univ.map ⟨up c, up_inj c⟩ := by revert c; decide
theorem others_dn (c : Dev nD) : Finset.univ.erase c = Finset.univ.map ⟨dn c, dn_inj c⟩ := by revert c; decide

omit [FloatOps F] in
/-- A conjunction over the devices: one's own, and the seven others counted up — -/
theorem bigSep_up (c : Dev nD) (Φ : Dev nD → sProp 𝕄) :
    bigSep Finset.univ Φ = iprop(Φ c ∗ bigSep Finset.univ fun r : Fin 7 => Φ (up c r)) := by
  rw [bigSep_univ_at Φ c, others_up, bigSep_map]; rfl
omit [FloatOps F] in
/-- or counted down. -/
theorem bigSep_dn (c : Dev nD) (Φ : Dev nD → sProp 𝕄) :
    bigSep Finset.univ Φ = iprop(Φ c ∗ bigSep Finset.univ fun r : Fin 7 => Φ (dn c r)) := by
  rw [bigSep_univ_at Φ c, others_dn, bigSep_map]; rfl

/-! ## The cells -/

theorem sem_inb (j : Dev nD) : ∀ a, (![j.val] : Fin 1 → Nat) a + S1.size a ≤ S8.size a := by revert j; decide

/-- The barrier semaphore, send semaphore `j`, receive semaphore `s`. -/
abbrev barS : Sem sig := (SemArray.scalar (sig.barrier 0 rfl) : Sems sig S_).sem
abbrev sendQ (j : Dev nD) : DmaSem sig :=
  ((cc0_scratch1.slice (Rect.unit (s := S8) ![j.val] S1.size (sem_inb j))).squeeze S_ squeezes_S1_S_).sem
abbrev recvQ (s : Dev nD) : DmaSem sig :=
  ((cc0_scratch2.slice (Rect.unit (s := S8) ![s.val] S1.size (sem_inb s))).squeeze S_ squeezes_S1_S_).sem

/-- The cells of a device: barrier, send `j`, receive `s`. The send and receive cells are the launch's own. -/
abbrev OI : Type := Dev nD ⊕ Dev nD
abbrev CI : Type := Unit ⊕ OI
abbrev osem : OI → SemLoc sig := fun | .inl j => .dma (sendQ j) | .inr s => .dma (recvQ s)
abbrev csem : CI → SemLoc sig := fun | .inl _ => .reg barS | .inr k => osem k

abbrev kcell (ck : Dev nD × CI) : GSem nD τ sig := ((ck.1 : Thread nD τ), csem ck.2)
abbrev barCell (c : Dev nD) : GSem nD τ sig := kcell (c, .inl ())
abbrev sendCell (c j : Dev nD) : GSem nD τ sig := kcell (c, .inr (.inl j))
abbrev recvCell (c s : Dev nD) : GSem nD τ sig := kcell (c, .inr (.inr s))

/-- Which cell of a device a semaphore is, if it is one of these. -/
def cellAt : SemLoc sig → Option CI
  | .reg _ => some (.inl ())
  | .dma q => if h : q.val < 2 then none
      else if h' : q.val < 10 then some (.inr (.inl ⟨q.val - 2, by show _ < 8; omega⟩))
      else some (.inr (.inr ⟨q.val - 10, by have := q.isLt; have e : sig.nDmaSem = 18 := rfl; show _ < 8; omega⟩))

theorem cellAt_csem (k : CI) : cellAt (csem k) = some k := by revert k; decide

/-- The credit of one transferred block. -/
abbrev N : ℕ := (oRow 0).view.dmaCredit
theorem N_pos : 0 < N := View.dmaCredit_pos _ (by decide)

/-! ## What the duties hand over -/

/-- Row block `s` of device `c`'s output at `f`; slab `j` of its scratch at `f`. -/
def rowPts (c s : Dev nD) (f : S2048x256.Idx → Elt F .bf16) : sProp 𝕄 :=
  (oRow s).view.loc (c : Thread nD τ) ↦[(oRow s).view.set]{fullShare} f
def slabPts (c j : Dev nD) (f : S8x256x256.Idx → Elt F .bf16) : sProp 𝕄 :=
  (cSlab j).view.loc (c : Thread nD τ) ↦[(cSlab j).view.set]{fullShare} f

omit [FloatOps F] in
instance rowPts_storable (c s : Dev nD) (f) : BI.Storable (upEmb : UEmb _ 𝕄) (rowPts (F := F) c s f) := by
  unfold rowPts; infer_instance
omit [FloatOps F] in
instance slabPts_storable (c j : Dev nD) (f) : BI.Storable (upEmb : UEmb _ 𝕄) (slabPts (F := F) c j f) := by
  unfold slabPts; infer_instance

variable (X : Dev nD → S256x2048.Idx → Elt F .bf16)

/-- The duties of device `c`'s cell `k`: every other device's for the barrier, one (named `0`) for a used transfer cell. -/
def dutiesOf (c : Dev nD) : CI → Finset (Dev nD)
  | .inl _ => Finset.univ.erase c
  | .inr (.inl j) => if j = c then ∅ else {0}
  | .inr (.inr s) => if s = c then ∅ else {0}
def amountOf : CI → ℕ
  | .inl _ => 1
  | .inr _ => N
def payloadOf (c : Dev nD) : CI → Dev nD → sProp 𝕄
  | .inl _, d => iprop(∃ f, rowPts d c f)
  | .inr (.inl j), _ => slabPts c j (commOf (X c))
  | .inr (.inr s), _ => rowPts c s (outOf X c)

/-- The schedule of the exchange, one round. -/
def exRd : Rounds.Schedule (GSem nD τ sig) (Dev nD) 𝕄 where
  duties g r := if r = 0 ∧ g.1.2 = .tc then (cellAt g.2).elim ∅ (dutiesOf g.1.1) else ∅
  unitless _ := False
  amount g _ _ := (cellAt g.2).elim 1 amountOf
  payload g _ d := (cellAt g.2).elim iprop(emp) fun k => payloadOf X g.1.1 k d
  amount_pos g _ _ _ := by
    rcases cellAt g.2 with _ | _ | _
    · exact Nat.one_pos
    · exact Nat.one_pos
    · exact N_pos

instance exRd_payload_storable (g : GSem nD τ sig) (r : ℕ) (d : Dev nD) :
    BI.Storable (upEmb : UEmb _ 𝕄) ((exRd (F := F) X).payload g r d) := by
  show BI.Storable upEmb ((cellAt g.2).elim iprop(emp) fun k => payloadOf X g.1.1 k d)
  rcases cellAt g.2 with _ | _ | _ | _
  · show BI.Storable upEmb (iprop(emp) : sProp 𝕄); infer_instance
  · show BI.Storable upEmb iprop(∃ f, rowPts d g.1.1 f); infer_instance
  · exact slabPts_storable _ _ _
  · exact rowPts_storable _ _ _

omit [FloatOps F] in
theorem duties_cell (c : Dev nD) (k : CI) : (exRd (F := F) X).duties (kcell (c, k)) 0 = dutiesOf c k := by
  dsimp only [exRd]; rw [if_pos ⟨rfl, rfl⟩, cellAt_csem]; rfl
omit [FloatOps F] in
theorem duties_later (g : GSem nD τ sig) : ∀ r, 1 ≤ r → (exRd (F := F) X).duties g r = ∅ :=
  fun r hr => by dsimp only [exRd]; rw [if_neg fun h => by omega]
omit [FloatOps F] in
/-- The cells a device does not use have no duty at any round. -/
theorem duties_unused_send (c : Dev nD) : ∀ r, 0 ≤ r → (exRd (F := F) X).duties (sendCell c c) r = ∅ := fun r _ => by
  rcases Nat.eq_zero_or_pos r with rfl | hr
  · rw [duties_cell]; exact if_pos rfl
  · exact duties_later X _ r hr
omit [FloatOps F] in
theorem duties_unused_recv (c : Dev nD) : ∀ r, 0 ≤ r → (exRd (F := F) X).duties (recvCell c c) r = ∅ := fun r _ => by
  rcases Nat.eq_zero_or_pos r with rfl | hr
  · rw [duties_cell]; exact if_pos rfl
  · exact duties_later X _ r hr
omit [FloatOps F] in
theorem amount_cell (c : Dev nD) (k : CI) (d : Dev nD) : (exRd (F := F) X).amount (kcell (c, k)) 0 d = amountOf k := by
  dsimp only [exRd]; rw [cellAt_csem]; rfl
omit [FloatOps F] in
theorem payload_cell (c : Dev nD) (k : CI) (d : Dev nD) : (exRd (F := F) X).payload (kcell (c, k)) 0 d = payloadOf X c k d := by
  dsimp only [exRd]; rw [cellAt_csem]; rfl

omit [FloatOps F] in
theorem duties_send {c j : Dev nD} (h : j ≠ c) : (exRd (F := F) X).duties (sendCell c j) 0 = {0} := by
  rw [duties_cell]; exact if_neg h
omit [FloatOps F] in
theorem duties_recv {c s : Dev nD} (h : s ≠ c) : (exRd (F := F) X).duties (recvCell c s) 0 = {0} := by
  rw [duties_cell]; exact if_neg h

omit [FloatOps F] in
theorem expect_bar (c : Dev nD) : (exRd (F := F) X).expect (barCell c) 0 = 7 := by
  unfold Schedule.expect Schedule.amountOf
  rw [duties_cell, Finset.sum_congr rfl fun d _ => amount_cell X c (.inl ()) d]
  show ∑ _d ∈ Finset.univ.erase c, 1 = 7
  revert c; decide
omit [FloatOps F] in
theorem expect_send {c j : Dev nD} (h : j ≠ c) : (exRd (F := F) X).expect (sendCell c j) 0 = N := by
  unfold Schedule.expect Schedule.amountOf; rw [duties_send X h, Finset.sum_singleton, amount_cell]; rfl
omit [FloatOps F] in
theorem expect_recv {c s : Dev nD} (h : s ≠ c) : (exRd (F := F) X).expect (recvCell c s) 0 = N := by
  unfold Schedule.expect Schedule.amountOf; rw [duties_recv X h, Finset.sum_singleton, amount_cell]; rfl

omit [FloatOps F] in
/-- What the barrier's wait hands over: row block `c` of every other device's output. -/
theorem rest_bar (c : Dev nD) : bigSep ((exRd (F := F) X).duties (barCell c) 0 \ ∅) (fun d => (exRd (F := F) X).payload (barCell c) 0 d)
    = bigSep Finset.univ fun r : Fin 7 => iprop(∃ f, rowPts (up c r) c f) := by
  rw [Finset.sdiff_empty, duties_cell, bigSep_congr fun d _ => payload_cell X c (.inl ()) d]
  show bigSep (Finset.univ.erase c) (fun d => iprop(∃ f, rowPts d c f)) = _
  rw [others_up, bigSep_map]; rfl
omit [FloatOps F] in
theorem rest_send {c j : Dev nD} (h : j ≠ c) :
    bigSep ((exRd (F := F) X).duties (sendCell c j) 0 \ ∅) (fun d => (exRd (F := F) X).payload (sendCell c j) 0 d) = slabPts c j (commOf (X c)) := by
  rw [Finset.sdiff_empty, duties_send X h, bigSep_singleton, payload_cell]; rfl
omit [FloatOps F] in
theorem rest_recv {c s : Dev nD} (h : s ≠ c) :
    bigSep ((exRd (F := F) X).duties (recvCell c s) 0 \ ∅) (fun d => (exRd (F := F) X).payload (recvCell c s) 0 d) = rowPts c s (outOf X c) := by
  rw [Finset.sdiff_empty, duties_recv X h, bigSep_singleton, payload_cell]; rfl

/-! ## What each device owes, and the levels -/

/-- The steps still to do from `n` on, and those done before it. -/
def todo (n : ℕ) : Finset (Fin 7) := Finset.univ.filter fun r => n ≤ r.val
def done (n : ℕ) : Finset (Fin 7) := Finset.univ.filter fun r => r.val < n

theorem todo_zero : todo 0 = Finset.univ := by decide
theorem todo_seven : todo 7 = ∅ := by decide
theorem done_zero : done 0 = ∅ := by decide
theorem done_seven : done 7 = Finset.univ := by decide
theorem todo_step (r : Fin 7) : todo r.val = insert r (todo (r.val + 1)) := by revert r; decide
theorem todo_not_mem (r : Fin 7) : r ∉ todo (r.val + 1) := by revert r; decide
theorem done_step (r : Fin 7) : done (r.val + 1) = insert r (done r.val) := by revert r; decide
theorem done_not_mem (r : Fin 7) : r ∉ done r.val := by revert r; decide

/-- The credit device `c` still owes the receive cells from step `n` on, and the units it still owes the barriers. -/
def recvO (c : Dev nD) (n : ℕ) : CellTallies nD τ sig Unit := ∑ r ∈ todo n, tallyAt (recvCell (up c r) c) () N
def sigO (c : Dev nD) (n : ℕ) : CellTallies nD τ sig Unit := ∑ r ∈ todo n, tallyAt (barCell (up c r)) () 1
def O₀ (c : Dev nD) : CellTallies nD τ sig Unit := recvO c 0 + sigO c 0

theorem recvO_step (c : Dev nD) (r : Fin 7) : recvO c r.val = recvO c (r.val + 1) + tallyAt (recvCell (up c r) c) () N := by
  unfold recvO; rw [todo_step, Finset.sum_insert (todo_not_mem r), add_comm]
theorem sigO_step (c : Dev nD) (r : Fin 7) : sigO c r.val = sigO c (r.val + 1) + tallyAt (barCell (up c r)) () 1 := by
  unfold sigO; rw [todo_step, Finset.sum_insert (todo_not_mem r), add_comm]
theorem recvO_seven (c : Dev nD) : recvO c 7 = 0 := by unfold recvO; rw [todo_seven, Finset.sum_empty]
theorem sigO_seven (c : Dev nD) : sigO c 7 = 0 := by unfold sigO; rw [todo_seven, Finset.sum_empty]

/-- A sum of tallies, at a cell. -/
theorem tallies_apply (s : Finset (Fin 7)) (G : Fin 7 → GSem nD τ sig) (n : ℕ) (g : GSem nD τ sig) (u : Unit) :
    (∑ r ∈ s, tallyAt (G r) () n : CellTallies nD τ sig Unit) g u = ∑ r ∈ s, if g = G r then n else 0 := by
  rw [Finset.sum_apply, Finsupp.finsetSum_apply]
  refine Finset.sum_congr rfl fun r _ => ?_
  rw [tallyAt_apply]
  by_cases h : g = G r
  · rw [if_pos ⟨h, rfl⟩, if_pos h]
  · rw [if_neg fun h' => h h'.1, if_neg h]

theorem tallies_pos {s : Finset (Fin 7)} {G : Fin 7 → GSem nD τ sig} {n : ℕ} {g : GSem nD τ sig} {u : Unit}
    (h : 0 < (∑ r ∈ s, tallyAt (G r) () n : CellTallies nD τ sig Unit) g u) : ∃ r, g = G r := by
  rw [tallies_apply] at h
  obtain ⟨r, _, hr⟩ := Finset.exists_ne_zero_of_sum_ne_zero (Nat.pos_iff_ne_zero.mp h)
  exact ⟨r, by by_contra hn; exact hr (if_neg hn)⟩

def L (g : GSem nD τ sig) : Finset Unit := if g.1.2 = .tc then {()} else ∅
/-- Barrier cells at 1, receive cells at 2, everything else at 0. -/
def lv (g : GSem nD τ sig) (_ : Unit) : ℕ := match cellAt g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [show cellAt (barCell c).2 = _ from cellAt_csem (.inl ())]
theorem lv_recv (c s : Dev nD) : lv (recvCell c s) () = 2 := by unfold lv; rw [show cellAt (recvCell c s).2 = _ from cellAt_csem (.inr (.inr s))]

theorem O₀_pos {c : Dev nD} {g : GSem nD τ sig} {u : Unit} (h : 0 < O₀ c g u) :
    (∃ r, g = recvCell (up c r) c) ∨ ∃ r, g = barCell (up c r) := by
  unfold O₀ at h
  rw [Pi.add_apply, Finsupp.add_apply] at h
  rcases Nat.eq_zero_or_pos (recvO c 0 g u) with h0 | h0
  · exact .inr (tallies_pos (by rw [h0, Nat.zero_add] at h; exact h))
  · exact .inl (tallies_pos h0)

omit [FloatOps F] in
/-- A device may wait on a staging cell while it owes what it owes at the start, or nothing. -/
theorem mayWait_stage (c : Dev nD) (q : DmaSem sig) (hq : cellAt (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by rw [Finset.mem_singleton.mp hp]; unfold lv; rw [hq])
      (fun g u hg => by
        rcases O₀_pos hg with ⟨r, rfl⟩ | ⟨r, rfl⟩
        · rw [lv_recv]; decide
        · rw [lv_bar]; decide)
  · rw [MayWait_zero]; iintro -; iempintro

omit [FloatOps F] in
/-- At its barrier wait a device owes receive cells only, which are above its barrier cell. -/
theorem mayWait_bar (c : Dev nD) : (levAts L lv : sProp 𝕄) ⊢ MayWait (c : Thread nD τ) (.reg barS) () (recvO c 0) :=
  MayOwe.of_cut (L := L) (lev := lv) 1 (fun p hp => by rw [Finset.mem_singleton.mp hp, L_tc]; exact Finset.mem_singleton_self _)
    (fun g u hg => by obtain ⟨r, rfl⟩ := tallies_pos hg; exact Finset.mem_singleton_self _)
    (fun p hp => by rw [Finset.mem_singleton.mp hp]; exact (lv_bar c).le)
    (fun g u hg => by obtain ⟨r, rfl⟩ := tallies_pos hg; rw [lv_recv]; decide)

end Cert.KernelIdeal.AllToAll

end
-- ==== Proof.Body.lean ====
/-
# The kernel's body, run symbolically

The body is seven phases: seven signals to the other devices' barriers, eight slabs packed, one's own block stored, the
barrier's wait for seven, seven transfers, seven waits for what the others send, seven waits for one's own slabs back.
Each phase's state is one assertion indexed by the number of steps done; one lemma per kind of step takes the assertion
from a step to the next, and `sound_body` runs the printed program through them.
-/
module

public import proofs.«01_k».proof.Proof.Schedule

@[expose] public section

noncomputable section

namespace Cert.KernelIdeal.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → S256x2048.Idx → Elt F .bf16)

/-! ## What every body shares: the cells' invariants and that round 0 is reached everywhere -/

def records (K : Dev nD × CI → ℕ) : sProp 𝕄 :=
  iprop((bigSep Finset.univ fun ck : Dev nD × CI => cellInv ER (exRd X) (K ck) (kcell ck))
    ∗ bigSep Finset.univ fun ck : Dev nD × CI => reached ER (kcell ck) 0)

instance records_persistent (K : Dev nD × CI → ℕ) : BI.Persistent (records X K) := by unfold records; infer_instance

omit [FloatOps F] in
theorem inv_of (K : Dev nD × CI → ℕ) (ck : Dev nD × CI) : records X K ⊢ cellInv ER (exRd X) (K ck) (kcell ck) := by
  unfold records
  iintro ⟨H, -⟩
  iapply (show (bigSep Finset.univ fun ck : Dev nD × CI => (cellInv ER (exRd X) (K ck) (kcell ck) : sProp 𝕄)) ⊢ cellInv ER (exRd X) (K ck) (kcell ck)
    from bigSep_elim (Finset.mem_univ ck)); iexact H
omit [FloatOps F] in
theorem reached_of (K : Dev nD × CI → ℕ) (ck : Dev nD × CI) : records X K ⊢ reached ER (kcell ck) 0 := by
  unfold records
  iintro ⟨-, H⟩
  iapply (show (bigSep Finset.univ fun ck : Dev nD × CI => (reached ER (kcell ck) 0 : sProp 𝕄)) ⊢ reached ER (kcell ck) 0
    from bigSep_elim (Finset.mem_univ ck)); iexact H

/-! ## Steps still to do and steps done -/

omit [FloatOps F] in
theorem todo_split (Φ : Fin 7 → sProp 𝕄) (r : Fin 7) : bigSep (todo r.val) Φ = iprop(Φ r ∗ bigSep (todo (r.val + 1)) Φ) := by
  rw [todo_step, bigSep_insert (todo_not_mem r)]; rfl
omit [FloatOps F] in
theorem done_join (Φ : Fin 7 → sProp 𝕄) (r : Fin 7) : bigSep (done (r.val + 1)) Φ = iprop(Φ r ∗ bigSep (done r.val) Φ) := by
  rw [done_step, bigSep_insert (done_not_mem r)]; rfl

/-! ## The output as its row blocks, the scratch as its slabs -/

omit [FloatOps F] in
theorem rows_eq (c : Dev nD) (f : S2048x256.Idx → Elt F .bf16) :
    (((c : Thread nD τ).loc cc0_stg1_0) ↦{fullShare} f : sProp 𝕄) = bigSep Finset.univ fun s : Dev nD => rowPts c s f := by
  have h : (Finset.univ : Finset S2048x256.Idx) = Finset.univ.biUnion fun s : Dev nD => (oRow s).view.set := by
    ext i
    simp only [Finset.mem_univ, Finset.mem_biUnion, true_and, true_iff]
    exact ⟨⟨(i 0).val / 256, by have h0 : (i 0).val < 2048 := (i 0).isLt; show _ < 8; omega⟩, by rw [oRow_set, mem_rows]⟩
  have hd : ∀ s ∈ (Finset.univ : Finset (Dev nD)), ∀ s' ∈ (Finset.univ : Finset (Dev nD)), s ≠ s' → Disjoint (oRow s).view.set (oRow s').view.set := by
    intro s _ s' _ hs
    refine Finset.disjoint_left.mpr fun i hi hi' => hs ?_
    rw [oRow_set, mem_rows] at hi hi'
    exact Fin.ext (hi.symm.trans hi')
  unfold rowPts
  show (((c : Thread nD τ).loc cc0_stg1_0) ↦[(Finset.univ : Finset S2048x256.Idx)]{fullShare} f : sProp 𝕄) = _
  rw [h]
  exact pointsTo_biUnion _ _ hd
omit [FloatOps F] in
theorem slabs_eq (c : Dev nD) (f : S8x256x256.Idx → Elt F .bf16) :
    (((c : Thread nD τ).loc cc0_scratch0) ↦{fullShare} f : sProp 𝕄) = bigSep Finset.univ fun j : Dev nD => slabPts c j f := by
  have h : (Finset.univ : Finset S8x256x256.Idx) = Finset.univ.biUnion fun j : Dev nD => (cSlab j).view.set := by
    ext i
    simp only [Finset.mem_univ, Finset.mem_biUnion, true_and, true_iff]
    exact ⟨⟨(i 0).val, (i 0).isLt⟩, by rw [cSlab_set, mem_slab]⟩
  have hd : ∀ s ∈ (Finset.univ : Finset (Dev nD)), ∀ s' ∈ (Finset.univ : Finset (Dev nD)), s ≠ s' → Disjoint (cSlab s).view.set (cSlab s').view.set := by
    intro s _ s' _ hs
    refine Finset.disjoint_left.mpr fun i hi hi' => hs ?_
    rw [cSlab_set, mem_slab] at hi hi'
    exact Fin.ext (hi.symm.trans hi')
  unfold slabPts
  show (((c : Thread nD τ).loc cc0_scratch0) ↦[(Finset.univ : Finset S8x256x256.Idx)]{fullShare} f : sProp 𝕄) = _
  rw [h]
  exact pointsTo_biUnion _ _ hd

/-! ## The phases' states -/

/-- What device `c` owes, having waited as it may. -/
def Ow (c : Dev nD) (O : CellTallies nD τ sig Unit) : sProp 𝕄 := iprop(∃ W : Waits sig Unit, owes (c : Thread nD τ) O W)

/-- Signalling: for each device still to signal, the duty's token and the row block it hands over. -/
def SigSt (K : Dev nD × CI → ℕ) (c : Dev nD) (n : ℕ) : sProp 𝕄 :=
  iprop(records X K ∗ Ow c (recvO c 0 + sigO c n)
    ∗ bigSep (todo n) fun r => iprop(dutyTok ER (barCell (up c r)) 0 c ∗ ∃ f, rowPts c (up c r) f))
/-- Packing: the rows, and the scratch with slabs below `n` packed. -/
def PackSt (c : Dev nD) (n : ℕ) : sProp 𝕄 :=
  iprop((((c : Thread nD τ).loc cc0_stg0_0) ↦{fullShare} X c)
    ∗ ∃ f : S8x256x256.Idx → Elt F .bf16, ⌜∀ i, (i 0).val < n → f i = commOf (X c) i⌝ ∗ (((c : Thread nD τ).loc cc0_scratch0) ↦{fullShare} f))
/-- Storing one's own block: it holds what it is to once its number is below `n`. -/
def OwnSt (c : Dev nD) (n : ℕ) : sProp 𝕄 :=
  iprop((((c : Thread nD τ).loc cc0_scratch0) ↦{fullShare} commOf (X c))
    ∗ ∃ f : S2048x256.Idx → Elt F .bf16, ⌜c.val < n → ∀ i ∈ (oRow c).view.set, f i = outOf X c i⌝ ∗ rowPts c c f)
/-- Sending: for each transfer still to start, its two tokens, the slab it reads and the row block it lands on; for each
    started, the credit its send cell will give. -/
def SendSt (K : Dev nD × CI → ℕ) (c : Dev nD) (n : ℕ) : sProp 𝕄 :=
  iprop(records X K ∗ Ow c (recvO c n)
    ∗ (bigSep (todo n) fun r => iprop(dutyTok ER (sendCell c (up c r)) 0 0 ∗ dutyTok ER (recvCell (up c r) c) 0 0
        ∗ slabPts c (up c r) (commOf (X c)) ∗ ∃ f, rowPts (up c r) c f))
    ∗ bigSep (done n) fun r => cred (tallyAt (sendCell c (up c r)) () N))
/-- Receiving: for each wait still to do, its credit and the cell's position; for each done, the row block and the cell closed. -/
def RecvSt (K : Dev nD × CI → ℕ) (c : Dev nD) (n : ℕ) : sProp 𝕄 :=
  iprop(records X K ∗ Ow c 0
    ∗ (bigSep (todo n) fun r => iprop(cred (tallyAt (recvCell c (dn c r)) () N) ∗ atPos ER (recvCell c (dn c r)) 0 ∅ 0))
    ∗ bigSep (done n) fun r => iprop(rowPts c (dn c r) (outOf X c) ∗ semVal (recvCell c (dn c r)) 0))
/-- Getting the slabs back: likewise, on the send cells. -/
def BackSt (K : Dev nD × CI → ℕ) (c : Dev nD) (n : ℕ) : sProp 𝕄 :=
  iprop(records X K ∗ Ow c 0
    ∗ (bigSep (todo n) fun r => iprop(cred (tallyAt (sendCell c (up c r)) () N) ∗ atPos ER (sendCell c (up c r)) 0 ∅ 0))
    ∗ bigSep (done n) fun r => iprop(slabPts c (up c r) (commOf (X c)) ∗ semVal (sendCell c (up c r)) 0))

/-- Device `c`'s TensorCore runs the program `p` to `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The steps -/

section Steps

variable (K : Dev nD × CI → ℕ) (c : Dev nD)

/-- A signal to the device `r + 1` up, handing it its landing place in one's own output. -/
theorem sig_step {α : Type} {Q : α → sProp 𝕄} {k : PUnit → Prog (TpuEff nD τ sig (Elt F) Λ₀ .tc) α}
    (r : Fin 7) (n : ℕ) (hn : r.val = n) {dv : Dev nD} (hdv : dv = up c r) :
    SigSt X K c n ⊢ iprop((SigSt X K c (n + 1) -∗ Run c (k ⟨⟩) Q)
      -∗ Run c (.op (.semSignal (dv : Thread nD τ) barS ((1 : ℕ) : Int)) k) Q) := by
  subst hn
  subst hdv
  unfold SigSt Ow
  rw [todo_split]
  iintro ⟨#HR, ⟨%W, HO⟩, ⟨Ht, Hrow⟩, Hrest⟩ Hk
  iapply (Rounds.wp_signal 𝒱₀ ER (exRd X) (c : Thread nD τ) none (dst := ((up c r : Dev nD) : Thread nD τ)) (κ := K (up c r, .inl ()))
      (d := c) (by rw [duties_cell X (up c r) (.inl ())]; exact Finset.mem_erase.mpr ⟨(up_ne c r).symm, Finset.mem_univ _⟩)
      (amount_cell X (up c r) (.inl ()) c) () (O₀ := recvO c 0 + sigO c r.val) (recvO c 0 + sigO c (r.val + 1)) (by rw [sigO_step, ← add_assoc]; rfl)) $$ [HO Ht Hrow]
  · isplitr; · iapply (inv_of X K (up c r, .inl ())); iexact HR
    isplitl [HO]; · iexact HO
    isplitl [Ht]; · iexact Ht
    isplitl [Hrow]; · rw [payload_cell X (up c r) (.inl ()), payloadOf]; iexact Hrow
    iapply (reached_of X K (up c r, .inl ())); iexact HR
  iintro HO
  iapply Hk
  isplitr; · iexact HR
  isplitl [HO]; · iexists W; iexact HO
  iexact Hrest

/-- The two loads of a slab's packing, where its store comes later: the value loaded is that of the columns. -/
theorem pack_loads {α : Type} {Q : α → sProp 𝕄} {k : (S256x256.Idx → Elt F .bf16) → Prog (TpuEff nD τ sig (Elt F) Λ₀ .tc) α}
    (j : Dev nD) (n : ℕ) {hx hc} :
    PackSt X c n ⊢ iprop((PackSt X c n -∗ Run c (k (xM.view.readAt (Elt F) (colRect j).toLoadRect (X c))) Q)
      -∗ Run c (.op (.load xM (colRect j).toLoadRect hx) fun v => .op (.load cM (slabRect j).toLoadRect hc) fun _ => k v) Q) := by
  unfold PackSt
  iintro ⟨Hx, ⟨%f, %hf, Hc⟩⟩ Hk
  iapply (wp_load 𝒱₀ (c : Thread nD τ) none Set.univ (m := xM) (Finset.subset_univ _)) $$ Hx; iintro Hx
  iapply (wp_load 𝒱₀ (c : Thread nD τ) none Set.univ (m := cM) (Finset.subset_univ _)) $$ Hc; iintro Hc
  iapply Hk
  isplitl [Hx]; · iexact Hx
  iexists f
  isplitr; · ipureintro; exact hf
  iexact Hc

/-- The store of a slab's packing. -/
theorem pack_store {α : Type} {Q : α → sProp 𝕄} {k : PUnit → Prog (TpuEff nD τ sig (Elt F) Λ₀ .tc) α}
    (j : Dev nD) (n : ℕ) (hn : j.val = n) {h₁ h₂} {w : S1x256x256.Idx → Elt F .bf16}
    (hw : w = shapeCast S1x256x256 (shapeCast S256x256 (xM.view.readAt (Elt F) (colRect j).toLoadRect (X c)) h₁) h₂) {hs ha} :
    PackSt X c n ⊢ iprop((PackSt X c (n + 1) -∗ Run c (k ⟨⟩) Q)
      -∗ Run c (.op (.store cM (slabRect j) w Finset.univ hs ha) k) Q) := by
  subst hn
  subst hw
  unfold PackSt
  iintro ⟨Hx, ⟨%f, %hf, Hc⟩⟩ Hk
  iapply (wp_store 𝒱₀ (c : Thread nD τ) none Set.univ (m := cM) (r := slabRect j) (Mk := Finset.univ) (Finset.subset_univ _)) $$ Hc; iintro Hc
  iapply Hk
  isplitl [Hx]; · iexact Hx
  iexists ((cM.access (slabRect j)).write (Elt F) f (shapeCast S1x256x256 (shapeCast S256x256 (xM.view.readAt (Elt F) (colRect j).toLoadRect (X c)) h₁) h₂) Finset.univ)
  isplitr
  · ipureintro
    exact fun i hi => packed (X c) j h₁ h₂ f hf i hi
  iexact Hc

/-- One slab packed. -/
theorem pack_step {α : Type} {Q : α → sProp 𝕄} {k : PUnit → Prog (TpuEff nD τ sig (Elt F) Λ₀ .tc) α}
    (j : Dev nD) (n : ℕ) (hn : j.val = n) {h₁ h₂} {pay : (S256x256.Idx → Elt F .bf16) → (S1x256x256.Idx → Elt F .bf16)}
    (hpay : ∀ v, pay v = shapeCast S1x256x256 (shapeCast S256x256 v h₁) h₂) {hx hc hs ha} :
    PackSt X c n ⊢ iprop((PackSt X c (n + 1) -∗ Run c (k ⟨⟩) Q)
      -∗ Run c (.op (.load xM (colRect j).toLoadRect hx) fun v => .op (.load cM (slabRect j).toLoadRect hc) fun _ =>
          .op (.store cM (slabRect j) (pay v) Finset.univ hs ha) k) Q) := by
  iintro H Hk
  iapply (pack_loads X c j n) $$ H; iintro H
  iapply (pack_store X c j n hn (hpay _)) $$ H; iintro H
  iapply Hk; iexact H

/-- The block stored where the branch's number is the device's own; where it is not, nothing is. -/
theorem own_step {α : Type} {Q : α → sProp 𝕄} {k : PUnit → Prog (TpuEff nD τ sig (Elt F) Λ₀ .tc) α}
    (j : Dev nD) (n : ℕ) (hn : j.val = n) {b : Prop} [Decidable b] (hb : b ↔ c = j) {h₁} {pay : (S1x256x256.Idx → Elt F .bf16) → (S256x256.Idx → Elt F .bf16)}
    (hpay : ∀ v, pay v = shapeCast S256x256 v h₁) {hc ho hs ha} :
    OwnSt X c n ⊢ iprop((OwnSt X c (n + 1) -∗ Run c (k ⟨⟩) Q)
      -∗ Run c (dite b (fun _ => .op (.load cM (slabRect j).toLoadRect hc) fun v => .op (.load oM (rowRect j).toLoadRect ho) fun _ =>
          .op (.store oM (rowRect j) (pay v) Finset.univ hs ha) fun u => k u) (fun _ => k ⟨⟩)) Q) := by
  subst hn
  unfold OwnSt
  by_cases h : b
  · have hcj := hb.mp h
    subst hcj
    rw [dif_pos h]
    unfold rowPts
    iintro ⟨Hc, ⟨%f, -, Ho⟩⟩ Hk
    iapply (wp_load 𝒱₀ (c : Thread nD τ) none Set.univ (m := cM) (Finset.subset_univ _)) $$ Hc; iintro Hc
    iapply (wp_load_rect 𝒱₀ (c : Thread nD τ) none Set.univ (m := oM) (r := rowRect c) (S := (oRow c).view.set) (Finset.Subset.refl _)) $$ Ho; iintro Ho
    iapply (wp_store 𝒱₀ (c : Thread nD τ) none Set.univ (m := oM) (r := rowRect c) (Mk := Finset.univ) (S := (oRow c).view.set) (Finset.Subset.refl _)) $$ Ho; iintro Ho
    iapply Hk
    isplitl [Hc]; · iexact Hc
    iexists ((oM.access (rowRect c)).write (Elt F) f (pay (cM.view.readAt (Elt F) (slabRect c).toLoadRect (commOf (X c)))) Finset.univ)
    isplitr
    · ipureintro
      rw [hpay]
      exact fun _ i hi => own_stored X c h₁ f i hi
    iexact Ho
  · rw [dif_neg h]
    iintro ⟨Hc, ⟨%f, %hf, Ho⟩⟩ Hk
    iapply Hk
    isplitl [Hc]; · iexact Hc
    iexists f
    isplitr
    · ipureintro
      exact fun hlt => hf (by have : c.val ≠ j.val := fun e => h (hb.mpr (Fin.ext e)); omega)
    iexact Ho

/-- The barrier's wait: every other device has signalled, so one has one's landing places and the barrier cell closes. -/
theorem bar_step {α : Type} {Q : α → sProp 𝕄} {k : PUnit → Prog (TpuEff nD τ sig (Elt F) Λ₀ .tc) α} :
    iprop(records X K ∗ levAts L lv ∗ Ow c (recvO c 0) ∗ cred (tallyAt (barCell c) () 7) ∗ atPos ER (barCell c) 0 ∅ 0)
      ⊢ iprop((iprop(Ow c (recvO c 0) ∗ semVal (barCell c) 0 ∗ bigSep Finset.univ fun r : Fin 7 => iprop(∃ f, rowPts (up c r) c f)) -∗ Run c (k ⟨⟩) Q)
        -∗ Run c (.op (.semWait barS ((7 : ℕ) : Int)) k) Q) := by
  unfold Ow
  iintro ⟨#HR, Hlev, ⟨%W, HO⟩, Hcr, Hat⟩ Hk
  iapply (Rounds.wp_wait_rest_token 𝒱₀ ER (exRd X) (c : Thread nD τ) none (κ := K (c, .inl ()))
      (wpE_semWait_eq 𝒱₀ (c : Thread nD τ) none Set.univ) (Set.mem_univ _) () (O := recvO c 0) (W := W) (R := 0) (m := 0) (T := ∅)
      (by rw [expect_bar X c])) $$ [Hlev HO Hcr Hat]
  · isplitr; · iapply (inv_of X K (c, .inl ())); iexact HR
    isplitl [Hcr]; · iexact Hcr
    isplitl [HO]; · iexact HO
    isplitl [Hlev]; · iapply (mayWait_bar c); iexact Hlev
    iexact Hat
  iintro ⟨HO, Hat, -, Hpay⟩
  ihave Hp := (Entails.of_eq (rest_bar X c)) $$ Hpay
  imod (Rounds.cell_close ER (exRd X) (Set.mem_univ (K (c, .inl ()))) (fun h => h) (R := 0 + 1) (duties_later X (barCell c))) $$ [Hat] with Hz
  · isplitr; · iapply (inv_of X K (c, .inl ())); iexact HR
    iexact Hat
  iapply Hk
  isplitl [HO]; · iexists _; iexact HO
  isplitl [Hz]; · iexact Hz
  iexact Hp

/-- A transfer to the device `r + 1` up: its slab read, its row block `c` written, both credits under way. -/
theorem send_step {α : Type} {Q : α → sProp 𝕄} {k : PUnit → Prog (TpuEff nD τ sig (Elt F) Λ₀ .tc) α}
    (r : Fin 7) (n : ℕ) (hn : r.val = n) {dv : Dev nD} (hdv : dv = up c r) {o₁ o₂ : Fin 1 → ℕ} {o₃ : Fin 2 → ℕ} {o₄ : Fin 3 → ℕ} {b₁ b₂ b₃ b₄}
    (e₁ : o₁ = ![(up c r).val]) (e₂ : o₂ = ![c.val]) (e₃ : o₃ = ![256 * c.val, 0]) (e₄ : o₄ = ![(up c r).val, 0, 0]) {hsc hsrc hdst hsem} :
    SendSt X K c n ⊢ iprop((SendSt X K c (n + 1) -∗ Run c (k ⟨⟩) Q)
      -∗ Run c (.op (.enqueueDma
          ((cM.slice (Rect.unit (s := S8x256x256) o₄ S1x256x256.size b₄) (fun _ => rfl)).squeeze S256x256 squeezes_S1x256x256_S256x256)
          (.remote (Dev.tc dv : Thread nD τ) (oM.slice (Rect.unit (s := S2048x256) o₃ S256x256.size b₃) (fun _ => rfl))
            (.dma ((cc0_scratch1.slice (Rect.unit (s := S8) o₁ S1.size b₁)).squeeze S_ squeezes_S1_S_).sem) hsc)
          (.dma ((cc0_scratch2.slice (Rect.unit (s := S8) o₂ S1.size b₂)).squeeze S_ squeezes_S1_S_).sem) hsrc hdst hsem) k) Q) := by
  subst hn
  subst hdv e₁ e₂ e₃ e₄
  unfold SendSt Ow
  rw [todo_split, done_join]
  iintro ⟨#HR, ⟨%W, HO⟩, ⟨⟨HtS, HtV, Hsl, ⟨%fd, Hrow⟩⟩, Hrest⟩, Hdone⟩ Hk
  unfold slabPts rowPts
  iapply (Rounds.wp_send_pointsTo 𝒱₀ ER (exRd X) (c : Thread nD τ) none (κ₁ := K (c, .inr (.inl (up c r)))) (κ₂ := K (up c r, .inr (.inr c)))
      (c' := ((up c r : Dev nD) : Thread nD τ)) (src := cSlab (up c r)) (dst := oRow c) (r₁ := 0) (r₂ := 0) (d₁ := 0) (d₂ := 0) (fd := fd) (fs := commOf (X c))
      (by rw [duties_send X (up_ne c r)]; exact Finset.mem_singleton_self _) (by rw [duties_recv X (up_ne c r).symm]; exact Finset.mem_singleton_self _)
      () () N rfl (amount_cell X c (.inr (.inl (up c r))) 0) (amount_cell X (up c r) (.inr (.inr c)) 0) (recvO c (r.val + 1)) (recvO_step c r) (W := W)
      (by rw [payload_cell X c (.inr (.inl (up c r)))]; exact BI.Entails.refl _)
      (by
        rw [payload_cell X (up c r) (.inr (.inr c))]
        exact Entails.of_eq (pointsTo_congr fun i hi => landed X c (up c r) fd i hi))) $$ [HO HtS HtV Hsl Hrow]
  · isplitr; · iapply (inv_of X K (c, .inr (.inl (up c r)))); iexact HR
    isplitr; · iapply (inv_of X K (up c r, .inr (.inr c))); iexact HR
    isplitl [Hsl]; · iexact Hsl
    isplitl [Hrow]; · iexact Hrow
    isplitl [HO]; · iexact HO
    isplitl [HtS]; · iexact HtS
    isplitr; · iapply (reached_of X K (c, .inr (.inl (up c r)))); iexact HR
    isplitl [HtV]; · iexact HtV
    iapply (reached_of X K (up c r, .inr (.inr c))); iexact HR
  iintro ⟨Hcr, HO⟩
  iapply Hk
  isplitr; · iexact HR
  isplitl [HO]; · iexists W; iexact HO
  isplitl [Hrest]; · iexact Hrest
  isplitl [Hcr]; · iexact Hcr
  iexact Hdone

variable {sp sp' : Space} {s s' : Shape} {e e' : EltTy} {src : Memref sig .tc sp' s' e'} {dst : Memref sig .tc sp s e}
  {hsrc : src.view.WordExact} {hdst : dst.view.WordExact}

/-- The wait for what the device `r + 1` down sends: row block and closed cell. -/
theorem recv_wait {α : Type} {Q : α → sProp 𝕄} {k : PUnit → Prog (TpuEff nD τ sig (Elt F) Λ₀ .tc) α}
    (r : Fin 7) (n : ℕ) (hn : r.val = n) (hN : dst.view.dmaCredit = N) {o : Fin 1 → ℕ} {b} (eo : o = ![(dn c r).val]) :
    RecvSt X K c n ⊢ iprop((RecvSt X K c (n + 1) -∗ Run c (k ⟨⟩) Q)
      -∗ Run c (.op (.waitDma2 ((cc0_scratch2.slice (Rect.unit (s := S8) o S1.size b)).squeeze S_ squeezes_S1_S_).sem src dst hsrc hdst) k) Q) := by
  subst hn
  subst eo
  unfold RecvSt Ow
  rw [todo_split, done_join]
  iintro ⟨#HR, ⟨%W, HO⟩, ⟨⟨Hcr, Hat⟩, Hrest⟩, Hdone⟩ Hk
  iapply (Rounds.wp_wait_rest_token 𝒱₀ ER (exRd X) (c : Thread nD τ) none (κ := K (c, .inr (.inr (dn c r)))) (sm := .dma (recvQ (dn c r))) (k' := dst.view.dmaCredit)
      (wpE_waitDma2_eq 𝒱₀ (c : Thread nD τ) none Set.univ) (Set.mem_univ _) () (O := 0) (W := W) (R := 0) (m := 0) (T := ∅)
      (by rw [Nat.zero_add, hN]; exact (expect_recv X (dn_ne c r)).symm)) $$ [HO Hcr Hat]
  · isplitr; · iapply (inv_of X K (c, .inr (.inr (dn c r)))); iexact HR
    isplitl [Hcr]; · rw [hN]; iexact Hcr
    isplitl [HO]; · iexact HO
    isplitr; · rw [MayWait_zero]; iempintro
    iexact Hat
  iintro ⟨HO, Hat, -, Hpay⟩
  ihave Hp := (Entails.of_eq (rest_recv X (dn_ne c r))) $$ Hpay
  imod (Rounds.cell_close ER (exRd X) (Set.mem_univ (K (c, .inr (.inr (dn c r))))) (fun h => h) (R := 0 + 1) (duties_later X (recvCell c (dn c r)))) $$ [Hat] with Hz
  · isplitr; · iapply (inv_of X K (c, .inr (.inr (dn c r)))); iexact HR
    iexact Hat
  iapply Hk
  isplitr; · iexact HR
  isplitl [HO]; · iexists _; iexact HO
  isplitl [Hrest]; · iexact Hrest
  isplitl [Hp Hz]
  · isplitl [Hp] <;> iassumption
  iexact Hdone

/-- The wait for the slab sent to the device `r + 1` up: slab and closed cell. -/
theorem back_wait {α : Type} {Q : α → sProp 𝕄} {k : PUnit → Prog (TpuEff nD τ sig (Elt F) Λ₀ .tc) α}
    (r : Fin 7) (n : ℕ) (hn : r.val = n) (hN : dst.view.dmaCredit = N) {o : Fin 1 → ℕ} {b} (eo : o = ![(up c r).val]) :
    BackSt X K c n ⊢ iprop((BackSt X K c (n + 1) -∗ Run c (k ⟨⟩) Q)
      -∗ Run c (.op (.waitDma2 ((cc0_scratch1.slice (Rect.unit (s := S8) o S1.size b)).squeeze S_ squeezes_S1_S_).sem src dst hsrc hdst) k) Q) := by
  subst hn
  subst eo
  unfold BackSt Ow
  rw [todo_split, done_join]
  iintro ⟨#HR, ⟨%W, HO⟩, ⟨⟨Hcr, Hat⟩, Hrest⟩, Hdone⟩ Hk
  iapply (Rounds.wp_wait_rest_token 𝒱₀ ER (exRd X) (c : Thread nD τ) none (κ := K (c, .inr (.inl (up c r)))) (sm := .dma (sendQ (up c r))) (k' := dst.view.dmaCredit)
      (wpE_waitDma2_eq 𝒱₀ (c : Thread nD τ) none Set.univ) (Set.mem_univ _) () (O := 0) (W := W) (R := 0) (m := 0) (T := ∅)
      (by rw [Nat.zero_add, hN]; exact (expect_send X (up_ne c r)).symm)) $$ [HO Hcr Hat]
  · isplitr; · iapply (inv_of X K (c, .inr (.inl (up c r)))); iexact HR
    isplitl [Hcr]; · rw [hN]; iexact Hcr
    isplitl [HO]; · iexact HO
    isplitr; · rw [MayWait_zero]; iempintro
    iexact Hat
  iintro ⟨HO, Hat, -, Hpay⟩
  ihave Hp := (Entails.of_eq (rest_send X (up_ne c r))) $$ Hpay
  imod (Rounds.cell_close ER (exRd X) (Set.mem_univ (K (c, .inr (.inl (up c r))))) (fun h => h) (R := 0 + 1) (duties_later X (sendCell c (up c r)))) $$ [Hat] with Hz
  · isplitr; · iapply (inv_of X K (c, .inr (.inl (up c r)))); iexact HR
    iexact Hat
  iapply Hk
  isplitr; · iexact HR
  isplitl [HO]; · iexists _; iexact HO
  isplitl [Hrest]; · iexact Hrest
  isplitl [Hp Hz]
  · isplitl [Hp] <;> iassumption
  iexact Hdone

/-- `recv_wait` on a row block of the output. -/
theorem recv_step {α : Type} {Q : α → sProp 𝕄} {k : PUnit → Prog (TpuEff nD τ sig (Elt F) Λ₀ .tc) α}
    (r : Fin 7) (n : ℕ) (hn : r.val = n) {o : Fin 1 → ℕ} {b} (eo : o = ![(dn c r).val]) {o' : Fin 2 → ℕ} {b' hsrc hdst} :
    RecvSt X K c n ⊢ iprop((RecvSt X K c (n + 1) -∗ Run c (k ⟨⟩) Q)
      -∗ Run c (.op (.waitDma2 ((cc0_scratch2.slice (Rect.unit (s := S8) o S1.size b)).squeeze S_ squeezes_S1_S_).sem src
          (oM.slice (Rect.unit (s := S2048x256) o' S256x256.size b') (fun _ => rfl)) hsrc hdst) k) Q) :=
  recv_wait (src := src) (dst := oM.slice (Rect.unit (s := S2048x256) o' S256x256.size b') (fun _ => rfl)) (hsrc := hsrc) (hdst := hdst) X K c r n hn rfl eo

/-- `back_wait` on a slab of the scratch. -/
theorem back_step {α : Type} {Q : α → sProp 𝕄} {k : PUnit → Prog (TpuEff nD τ sig (Elt F) Λ₀ .tc) α}
    (r : Fin 7) (n : ℕ) (hn : r.val = n) {o : Fin 1 → ℕ} {b} (eo : o = ![(up c r).val]) {o' : Fin 3 → ℕ} {b' hsrc hdst} :
    BackSt X K c n ⊢ iprop((BackSt X K c (n + 1) -∗ Run c (k ⟨⟩) Q)
      -∗ Run c (.op (.waitDma2 ((cc0_scratch1.slice (Rect.unit (s := S8) o S1.size b)).squeeze S_ squeezes_S1_S_).sem src
          ((cM.slice (Rect.unit (s := S8x256x256) o' S1x256x256.size b') (fun _ => rfl)).squeeze S256x256 squeezes_S1x256x256_S256x256) hsrc hdst) k) Q) :=
  back_wait (src := src) (dst := (cM.slice (Rect.unit (s := S8x256x256) o' S1x256x256.size b') (fun _ => rfl)).squeeze S256x256 squeezes_S1x256x256_S256x256)
    (hsrc := hsrc) (hdst := hdst) X K c r n hn rfl eo

end Steps

end Cert.KernelIdeal.AllToAll

end
-- ==== Proof.Parts.lean ====
/-
# The kernel's parts

The printed kernel is ten parts run one after the other. For each, one lemma takes the state before it to the state after it.
-/
module

public import proofs.«01_k».proof.Proof.Body

@[expose] public section

noncomputable section

namespace Cert.KernelIdeal.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S256x2048.Idx → Elt F .bf16) (K : Dev nD × CI → ℕ) (c : Dev nD)

/-- The word the kernel computes as its position. -/
abbrev posW (c : Dev nD) : BitVec 32 := Scalar.remsi (Scalar.divsi (Dev.word c) 1#32) 8#32
/-- The barrier's semaphores as the kernel names them. -/
abbrev barSems : Sems sig S_ := SemArray.scalar (sig.barrier 0 rfl)

/-- The kernel's test of slab number `j` against its own position: true where the position is `j`. -/
theorem own_cond (c j : Dev nD) :
    Scalar.cmpi .ne (Scalar.extui (Scalar.cmpi .eq (posW c) (BitVec.ofNat 32 j.val)) : BitVec 32) 0#32 = 1#1
      ↔ c = j := by
  revert c j; decide +kernel

/-- A program that has ended is where its result satisfies the postcondition. -/
theorem run_ret {α : Type} {Q : α → sProp 𝕄} (a : α) : Q a ⊢ Run c (.ret a) Q := by
  unfold Run; rw [wp_ret]
  exact fupd_intro

set_option maxHeartbeats 2000000 in
/-- Part 1: the first five signals. -/
theorem part1_run {Q : (Σ' (d0 : Dev nD) (v2 : BitVec 32) (v3 : Sems sig S_) (v24 : BitVec 32), BitVec 32) → sProp 𝕄} :
    SigSt X K c 0 ⊢ iprop((SigSt X K c 5 -∗ Q ⟨c, posW c, barSems, Scalar.addi (posW c) 6#32, 8#32⟩)
      -∗ Run c (k0_part1 (Memref.whole cc0_stg0_0) (Memref.isWhole_whole _) (Memref.whole cc0_stg1_0) (Memref.isWhole_whole _) (Memref.whole cc0_scratch0) (Memref.isWhole_whole _) cc0_scratch1 cc0_scratch2) Q) := by
  rw [k0_part1_eq_skeleton, k0_part1_skel]
  simp only [semSignalWord, semWaitWord, Prog.lift, Prog.bind_op, Prog.bind_ret, Prog.pure_eq_ret, wp_deviceId]
  iintro HS Hk
  iapply (sig_step X K c 0 0 rfl (Fin.ext (k0_dev1_eq c))) $$ HS; iintro HS
  iapply (sig_step X K c 1 1 rfl (Fin.ext (k0_dev2_eq c))) $$ HS; iintro HS
  iapply (sig_step X K c 2 2 rfl (Fin.ext (k0_dev3_eq c))) $$ HS; iintro HS
  iapply (sig_step X K c 3 3 rfl (Fin.ext (k0_dev4_eq c))) $$ HS; iintro HS
  iapply (sig_step X K c 4 4 rfl (Fin.ext (k0_dev5_eq c))) $$ HS; iintro HS

  iapply (run_ret c)
  iapply Hk; iexact HS

set_option maxHeartbeats 2000000 in
/-- Part 2: the last two signals, the first three slabs packed, the loads of the fourth. -/
theorem part2_run {Q : FVec F S1x256x256 .bf16 → sProp 𝕄} {v2 v24 v8 : BitVec 32} :
    iprop(SigSt X K c 5 ∗ PackSt X c 0) ⊢ iprop((iprop(SigSt X K c 7 ∗ PackSt X c 3) -∗ Q (k0_pay4 (xM.view.readAt (Elt F) (colRect 3).toLoadRect (X c))))
      -∗ Run c (k0_part2 (Memref.whole cc0_stg0_0) (Memref.isWhole_whole _) (Memref.whole cc0_stg1_0) (Memref.isWhole_whole _) (Memref.whole cc0_scratch0) (Memref.isWhole_whole _) cc0_scratch1 cc0_scratch2 c v2 barSems v24 v8) Q) := by
  rw [k0_part2_eq_skeleton, k0_part2_skel]
  simp only [semSignalWord, semWaitWord, Prog.lift, Prog.bind_op, Prog.bind_ret, Prog.pure_eq_ret, wp_deviceId]
  iintro ⟨HS, HP⟩ Hk
  iapply (sig_step X K c 5 5 rfl (Fin.ext (k0_dev6_eq c))) $$ HS; iintro HS
  iapply (sig_step X K c 6 6 rfl (Fin.ext (k0_dev7_eq c))) $$ HS; iintro HS
  iapply (pack_step X c 0 0 rfl (fun _ => rfl)) $$ HP; iintro HP
  iapply (pack_step X c 1 1 rfl (fun _ => rfl)) $$ HP; iintro HP
  iapply (pack_step X c 2 2 rfl (fun _ => rfl)) $$ HP; iintro HP
  iapply (pack_loads X c 3 3) $$ HP; iintro HP

  iapply (run_ret c)
  iapply Hk; isplitl [HS] <;> iassumption

set_option maxHeartbeats 2000000 in
/-- Part 3: the other slabs packed, and the first two branches of the store of one's own block. -/
theorem part3_run {Q : BitVec 32 → sProp 𝕄} {R : sProp 𝕄} :
    iprop(PackSt X c 3 ∗ (PackSt X c 8 -∗ iprop(OwnSt X c 0 ∗ R))) ⊢ iprop((iprop(OwnSt X c 2 ∗ R) -∗ Q (Scalar.extui (Scalar.cmpi .eq (posW c) 2#32)))
      -∗ Run c (k0_part3 (Memref.whole cc0_stg0_0) (Memref.isWhole_whole _) (Memref.whole cc0_stg1_0) (Memref.isWhole_whole _) (Memref.whole cc0_scratch0) (Memref.isWhole_whole _) cc0_scratch1 cc0_scratch2 (posW c) (k0_pay4 (xM.view.readAt (Elt F) (colRect 3).toLoadRect (X c)))) Q) := by
  rw [k0_part3_eq_skeleton, k0_part3_skel]
  simp only [semSignalWord, semWaitWord, Prog.lift, Prog.bind_op, Prog.bind_ret, Prog.pure_eq_ret, wp_deviceId]
  iintro ⟨HP, HJ⟩ Hk
  iapply (pack_store X c 3 3 rfl rfl) $$ HP; iintro HP
  iapply (pack_step X c 4 4 rfl (fun _ => rfl)) $$ HP; iintro HP
  iapply (pack_step X c 5 5 rfl (fun _ => rfl)) $$ HP; iintro HP
  iapply (pack_step X c 6 6 rfl (fun _ => rfl)) $$ HP; iintro HP
  iapply (pack_step X c 7 7 rfl (fun _ => rfl)) $$ HP; iintro HP
  ihave HQ := HJ $$ HP
  icases HQ with ⟨HP, HR⟩
  iapply (own_step X c 0 0 rfl (own_cond c 0) (fun _ => rfl)) $$ HP; iintro HP
  iapply (own_step X c 1 1 rfl (own_cond c 1) (fun _ => rfl)) $$ HP; iintro HP

  iapply (run_ret c)
  iapply Hk; isplitl [HP] <;> iassumption

set_option maxHeartbeats 2000000 in
/-- Part 4: the other branches, the barrier's wait, the first transfer. -/
theorem part4_run {Q : (Σ' (v108 : BitVec 32), BitVec 32) → sProp 𝕄} {R : sProp 𝕄} :
    iprop(OwnSt X c 2 ∗ (records X K ∗ levAts L lv ∗ Ow c (recvO c 0) ∗ cred (tallyAt (barCell c) () 7) ∗ atPos ER (barCell c) 0 ∅ 0)
        ∗ (iprop(OwnSt X c 8 ∗ Ow c (recvO c 0) ∗ semVal (barCell c) 0 ∗ bigSep Finset.univ fun r : Fin 7 => iprop(∃ f, rowPts (up c r) c f)) -∗ iprop(SendSt X K c 0 ∗ R))) ⊢ iprop((iprop(SendSt X K c 1 ∗ R) -∗ Q ⟨Scalar.addi (posW c) 2#32, 8#32⟩)
      -∗ Run c (k0_part4 (Memref.whole cc0_stg0_0) (Memref.isWhole_whole _) (Memref.whole cc0_stg1_0) (Memref.isWhole_whole _) (Memref.whole cc0_scratch0) (Memref.isWhole_whole _) cc0_scratch1 cc0_scratch2 c (posW c) barSems (Scalar.extui (Scalar.cmpi .eq (posW c) 2#32))) Q) := by
  rw [k0_part4_eq_skeleton, k0_part4_skel]
  simp only [semSignalWord, semWaitWord, Prog.lift, Prog.bind_op, Prog.bind_ret, Prog.pure_eq_ret, wp_deviceId]
  iintro ⟨HP, HB, HJ⟩ Hk
  iapply (own_step X c 2 2 rfl (own_cond c 2) (fun _ => rfl)) $$ HP; iintro HP
  iapply (own_step X c 3 3 rfl (own_cond c 3) (fun _ => rfl)) $$ HP; iintro HP
  iapply (own_step X c 4 4 rfl (own_cond c 4) (fun _ => rfl)) $$ HP; iintro HP
  iapply (own_step X c 5 5 rfl (own_cond c 5) (fun _ => rfl)) $$ HP; iintro HP
  iapply (own_step X c 6 6 rfl (own_cond c 6) (fun _ => rfl)) $$ HP; iintro HP
  iapply (own_step X c 7 7 rfl (own_cond c 7) (fun _ => rfl)) $$ HP; iintro HP
  iapply (bar_step X K c) $$ HB; iintro HB
  ihave HQ := HJ $$ [HP HB]
  · isplitl [HP] <;> iassumption
  icases HQ with ⟨HP, HR⟩
  iapply (send_step X K c 0 0 rfl (Fin.ext (k0_dev8_eq c)) (k0_off1_eq c 0) (k0_off2_eq c) (k0_off3_eq c) (k0_off4_eq c 0)) $$ HP; iintro HP

  iapply (run_ret c)
  iapply Hk; isplitl [HP] <;> iassumption

set_option maxHeartbeats 2000000 in
/-- Part 5: three transfers. -/
theorem part5_run {Q : PUnit → sProp 𝕄} {v2 v108 v8 : BitVec 32} :
    SendSt X K c 1 ⊢ iprop((SendSt X K c 4 -∗ Q ⟨⟩)
      -∗ Run c (k0_part5 (Memref.whole cc0_stg0_0) (Memref.isWhole_whole _) (Memref.whole cc0_stg1_0) (Memref.isWhole_whole _) (Memref.whole cc0_scratch0) (Memref.isWhole_whole _) cc0_scratch1 cc0_scratch2 c v2 v108 v8) Q) := by
  rw [k0_part5_eq_skeleton, k0_part5_skel]
  simp only [semSignalWord, semWaitWord, Prog.lift, Prog.bind_op, Prog.bind_ret, Prog.pure_eq_ret, wp_deviceId]
  iintro HP Hk
  iapply (send_step X K c 1 1 rfl (Fin.ext (k0_dev9_eq c)) (k0_off1_eq c 1) (k0_off2_eq c) (k0_off3_eq c) (k0_off4_eq c 1)) $$ HP; iintro HP
  iapply (send_step X K c 2 2 rfl (Fin.ext (k0_dev10_eq c)) (k0_off1_eq c 2) (k0_off2_eq c) (k0_off3_eq c) (k0_off4_eq c 2)) $$ HP; iintro HP
  iapply (send_step X K c 3 3 rfl (Fin.ext (k0_dev11_eq c)) (k0_off1_eq c 3) (k0_off2_eq c) (k0_off3_eq c) (k0_off4_eq c 3)) $$ HP; iintro HP

  iapply (run_ret c)
  iapply Hk; iexact HP

set_option maxHeartbeats 2000000 in
/-- Part 6: two transfers. -/
theorem part6_run {Q : PUnit → sProp 𝕄} {v2 : BitVec 32} :
    SendSt X K c 4 ⊢ iprop((SendSt X K c 6 -∗ Q ⟨⟩)
      -∗ Run c (k0_part6 (Memref.whole cc0_stg0_0) (Memref.isWhole_whole _) (Memref.whole cc0_stg1_0) (Memref.isWhole_whole _) (Memref.whole cc0_scratch0) (Memref.isWhole_whole _) cc0_scratch1 cc0_scratch2 c v2) Q) := by
  rw [k0_part6_eq_skeleton, k0_part6_skel]
  simp only [semSignalWord, semWaitWord, Prog.lift, Prog.bind_op, Prog.bind_ret, Prog.pure_eq_ret, wp_deviceId]
  iintro HP Hk
  iapply (send_step X K c 4 4 rfl (Fin.ext (k0_dev12_eq c)) (k0_off1_eq c 4) (k0_off2_eq c) (k0_off3_eq c) (k0_off4_eq c 4)) $$ HP; iintro HP
  iapply (send_step X K c 5 5 rfl (Fin.ext (k0_dev13_eq c)) (k0_off1_eq c 5) (k0_off2_eq c) (k0_off3_eq c) (k0_off4_eq c 5)) $$ HP; iintro HP

  iapply (run_ret c)
  iapply Hk; iexact HP

set_option maxHeartbeats 2000000 in
/-- Part 7: the last transfer, and two waits for what the others send. -/
theorem part7_run {Q : (Σ' (v204 : BitVec 32), BitVec 32) → sProp 𝕄} {v2 : BitVec 32} {R : sProp 𝕄} :
    iprop(SendSt X K c 6 ∗ (SendSt X K c 7 -∗ iprop(RecvSt X K c 0 ∗ R))) ⊢ iprop((iprop(RecvSt X K c 2 ∗ R) -∗ Q ⟨Scalar.remsi (Scalar.subi (Scalar.addi v2 8#32) 3#32) 8#32, 1#32⟩)
      -∗ Run c (k0_part7 (Memref.whole cc0_stg0_0) (Memref.isWhole_whole _) (Memref.whole cc0_stg1_0) (Memref.isWhole_whole _) (Memref.whole cc0_scratch0) (Memref.isWhole_whole _) cc0_scratch1 cc0_scratch2 c v2) Q) := by
  rw [k0_part7_eq_skeleton, k0_part7_skel]
  simp only [semSignalWord, semWaitWord, Prog.lift, Prog.bind_op, Prog.bind_ret, Prog.pure_eq_ret, wp_deviceId]
  iintro ⟨HP, HJ⟩ Hk
  iapply (send_step X K c 6 6 rfl (Fin.ext (k0_dev14_eq c)) (k0_off1_eq c 6) (k0_off2_eq c) (k0_off3_eq c) (k0_off4_eq c 6)) $$ HP; iintro HP
  ihave HQ := HJ $$ HP
  icases HQ with ⟨HP, HR⟩
  iapply (recv_step X K c 0 0 rfl (k0_off5_eq c 0)) $$ HP; iintro HP
  iapply (recv_step X K c 1 1 rfl (k0_off5_eq c 1)) $$ HP; iintro HP

  iapply (run_ret c)
  iapply Hk; isplitl [HP] <;> iassumption

set_option maxHeartbeats 2000000 in
/-- Part 8: three waits. -/
theorem part8_run {Q : BitVec 32 → sProp 𝕄} {v2 v204 v1 : BitVec 32} :
    RecvSt X K c 2 ⊢ iprop((RecvSt X K c 5 -∗ Q (Scalar.addi v2 8#32))
      -∗ Run c (k0_part8 (Memref.whole cc0_stg0_0) (Memref.isWhole_whole _) (Memref.whole cc0_stg1_0) (Memref.isWhole_whole _) (Memref.whole cc0_scratch0) (Memref.isWhole_whole _) cc0_scratch1 cc0_scratch2 c v2 v204 v1) Q) := by
  rw [k0_part8_eq_skeleton, k0_part8_skel]
  simp only [semSignalWord, semWaitWord, Prog.lift, Prog.bind_op, Prog.bind_ret, Prog.pure_eq_ret, wp_deviceId]
  iintro HP Hk
  iapply (recv_step X K c 2 2 rfl (k0_off5_eq c 2)) $$ HP; iintro HP
  iapply (recv_step X K c 3 3 rfl (k0_off5_eq c 3)) $$ HP; iintro HP
  iapply (recv_step X K c 4 4 rfl (k0_off5_eq c 4)) $$ HP; iintro HP

  iapply (run_ret c)
  iapply Hk; iexact HP

set_option maxHeartbeats 2000000 in
/-- Part 9: the last two waits, and the first wait for one's own slabs back. -/
theorem part9_run {Q : PUnit → sProp 𝕄} {v2 v235 : BitVec 32} {R : sProp 𝕄} :
    iprop(RecvSt X K c 5 ∗ (RecvSt X K c 7 -∗ iprop(BackSt X K c 0 ∗ R))) ⊢ iprop((iprop(BackSt X K c 1 ∗ R) -∗ Q ⟨⟩)
      -∗ Run c (k0_part9 (Memref.whole cc0_stg0_0) (Memref.isWhole_whole _) (Memref.whole cc0_stg1_0) (Memref.isWhole_whole _) (Memref.whole cc0_scratch0) (Memref.isWhole_whole _) cc0_scratch1 cc0_scratch2 c v2 v235) Q) := by
  rw [k0_part9_eq_skeleton, k0_part9_skel]
  simp only [semSignalWord, semWaitWord, Prog.lift, Prog.bind_op, Prog.bind_ret, Prog.pure_eq_ret, wp_deviceId]
  iintro ⟨HP, HJ⟩ Hk
  iapply (recv_step X K c 5 5 rfl (k0_off5_eq c 5)) $$ HP; iintro HP
  iapply (recv_step X K c 6 6 rfl (k0_off5_eq c 6)) $$ HP; iintro HP
  ihave HQ := HJ $$ HP
  icases HQ with ⟨HP, HR⟩
  iapply (back_step X K c 0 0 rfl (k0_off1_eq c 0)) $$ HP; iintro HP

  iapply (run_ret c)
  iapply Hk; isplitl [HP] <;> iassumption

end Cert.KernelIdeal.AllToAll

end
-- ==== Proof.Walk.lean ====
/-
# The whole body

The phases joined: what a device's body starts from is dealt to the phases, the printed program is run step by step, and
what the phases end with is put together again: the input as it was, the output and the scratch holding what they are to,
every cell of the device closed at zero.
-/
module

public import proofs.«01_k».proof.Proof.Parts

@[expose] public section

noncomputable section

namespace Cert.KernelIdeal.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S256x2048.Idx → Elt F .bf16)

/-! ## What the body starts from and ends with -/

omit [FloatOps F] in
/-- A conjunction over a device's cells: the barrier; the unused send cell and the seven used; likewise the receive cells. -/
theorem bigSep_cells (c : Dev nD) (Φ : CI → sProp 𝕄) : bigSep Finset.univ Φ
    = iprop(Φ (.inl ()) ∗ (Φ (.inr (.inl c)) ∗ bigSep Finset.univ fun r : Fin 7 => Φ (.inr (.inl (up c r))))
        ∗ (Φ (.inr (.inr c)) ∗ bigSep Finset.univ fun r : Fin 7 => Φ (.inr (.inr (dn c r))))) := by
  rw [BI.bigSep_univ_sum, BI.bigSep_univ_sum, bigSep_up c fun j => Φ (.inr (.inl j)), bigSep_dn c fun s => Φ (.inr (.inr s)),
    bigSep_univ_eq_bigSepL [()] (by decide) (by decide), bigSepL_singleton]
  rfl

/-- The tokens of the duties device `c` pays: a signal to each other device, a transfer's two credits for each. -/
def payToks (c : Dev nD) : sProp 𝕄 :=
  iprop((bigSep Finset.univ fun r : Fin 7 => dutyTok ER (barCell (up c r)) 0 c)
    ∗ (bigSep Finset.univ fun r : Fin 7 => dutyTok ER (sendCell c (up c r)) 0 0)
    ∗ bigSep Finset.univ fun r : Fin 7 => dutyTok ER (recvCell (up c r) c) 0 0)
/-- What device `c` alone holds of the cells: its positions, and those tokens. -/
def linear (c : Dev nD) : sProp 𝕄 := iprop((bigSep Finset.univ fun k : CI => atPos ER (kcell (c, k)) 0 ∅ 0) ∗ payToks c)
/-- The credits device `c` starts with: seven units at its barrier, a block's at each used receive cell. -/
def credits (c : Dev nD) : sProp 𝕄 :=
  iprop(cred (tallyAt (barCell c) () 7) ∗ bigSep Finset.univ fun r : Fin 7 => cred (tallyAt (recvCell c (dn c r)) () N))

def bodyPre (K : Dev nD × CI → ℕ) (c : Dev nD) : sProp 𝕄 :=
  iprop(records X K ∗ linear c ∗ credits c ∗ levAts L lv ∗ Ow c (O₀ c)
    ∗ (((c : Thread nD τ).loc cc0_stg0_0) ↦{fullShare} X c)
    ∗ (∃ f : S2048x256.Idx → Elt F .bf16, ((c : Thread nD τ).loc cc0_stg1_0) ↦{fullShare} f)
    ∗ (∃ f : S8x256x256.Idx → Elt F .bf16, ((c : Thread nD τ).loc cc0_scratch0) ↦{fullShare} f))

def bodyPost (c : Dev nD) : sProp 𝕄 :=
  iprop(Ow c 0
    ∗ (((c : Thread nD τ).loc cc0_stg0_0) ↦{fullShare} X c)
    ∗ (((c : Thread nD τ).loc cc0_stg1_0) ↦{fullShare} outOf X c)
    ∗ (((c : Thread nD τ).loc cc0_scratch0) ↦{fullShare} commOf (X c))
    ∗ bigSep Finset.univ fun k : CI => semVal (kcell (c, k)) 0)

/-! ## From a phase to the next -/

section Joins

variable (K : Dev nD × CI → ℕ) (c : Dev nD)

omit [FloatOps F] in
/-- The output is dealt: the own row block kept, each other handed over by a signal. -/
theorem sig_intro (f : S2048x256.Idx → Elt F .bf16) :
    iprop(records X K ∗ Ow c (O₀ c) ∗ (bigSep Finset.univ fun r : Fin 7 => dutyTok ER (barCell (up c r)) 0 c)
        ∗ (((c : Thread nD τ).loc cc0_stg1_0) ↦{fullShare} f))
      ⊢ iprop(SigSt X K c 0 ∗ rowPts c c f) := by
  rw [rows_eq, bigSep_up c]
  unfold SigSt O₀
  rw [todo_zero, bigSep_sep']
  iintro ⟨HR, HO, Ht, Hown, Hrows⟩
  isplitr [Hown]
  · isplitl [HR]; · iexact HR
    isplitl [HO]; · iexact HO
    isplitl [Ht]; · iexact Ht
    iapply (show (bigSep Finset.univ fun r : Fin 7 => rowPts c (up c r) f : sProp 𝕄) ⊢ bigSep Finset.univ fun r : Fin 7 => iprop(∃ f, rowPts c (up c r) f)
      from bigSep_mono fun r _ => show _ ⊢ iprop(∃ f, rowPts c (up c r) f) by iintro H; iexists f; iexact H)
    iexact Hrows
  iexact Hown

omit [FloatOps F] in
theorem sig_elim : SigSt X K c 7 ⊢ Ow c (recvO c 0) := by
  unfold SigSt
  rw [sigO_seven, add_zero]
  iintro ⟨-, HO, -⟩
  iexact HO

omit [FloatOps F] in
theorem pack_intro (f : S8x256x256.Idx → Elt F .bf16) :
    iprop((((c : Thread nD τ).loc cc0_stg0_0) ↦{fullShare} X c) ∗ (((c : Thread nD τ).loc cc0_scratch0) ↦{fullShare} f)) ⊢ PackSt X c 0 := by
  unfold PackSt
  iintro ⟨Hx, Hc⟩
  isplitl [Hx]; · iexact Hx
  iexists f
  isplitr; · ipureintro; exact fun i hi => absurd hi (Nat.not_lt_zero _)
  iexact Hc

omit [FloatOps F] in
/-- All eight slabs packed, the scratch holds what it is to, and one's own block can be stored. -/
theorem pack_elim (f : S2048x256.Idx → Elt F .bf16) :
    iprop(PackSt X c 8 ∗ rowPts c c f) ⊢ iprop((((c : Thread nD τ).loc cc0_stg0_0) ↦{fullShare} X c) ∗ OwnSt X c 0) := by
  unfold PackSt OwnSt
  iintro ⟨⟨Hx, ⟨%g, %hg, Hc⟩⟩, Ho⟩
  obtain rfl : g = commOf (X c) := funext fun i => hg i (i 0).isLt
  isplitl [Hx]; · iexact Hx
  isplitl [Hc]; · iexact Hc
  iexists f
  isplitr; · ipureintro; exact fun hi => absurd hi (Nat.not_lt_zero _)
  iexact Ho

omit [FloatOps F] in
theorem own_elim : OwnSt X c 8 ⊢ iprop((((c : Thread nD τ).loc cc0_scratch0) ↦{fullShare} commOf (X c)) ∗ rowPts c c (outOf X c)) := by
  unfold OwnSt rowPts
  iintro ⟨Hc, ⟨%f, %hf, Ho⟩⟩
  isplitl [Hc]; · iexact Hc
  iapply (Entails.of_eq (pointsTo_congr (hf c.isLt))); iexact Ho

omit [FloatOps F] in
/-- The scratch is dealt to the transfers, with the landing places the barrier gave. -/
theorem send_intro :
    iprop(records X K ∗ Ow c (recvO c 0) ∗ (bigSep Finset.univ fun r : Fin 7 => dutyTok ER (sendCell c (up c r)) 0 0)
        ∗ (bigSep Finset.univ fun r : Fin 7 => dutyTok ER (recvCell (up c r) c) 0 0)
        ∗ (((c : Thread nD τ).loc cc0_scratch0) ↦{fullShare} commOf (X c))
        ∗ bigSep Finset.univ fun r : Fin 7 => iprop(∃ f, rowPts (up c r) c f))
      ⊢ iprop(SendSt X K c 0 ∗ slabPts c c (commOf (X c))) := by
  rw [slabs_eq, bigSep_up c]
  unfold SendSt
  rw [todo_zero, done_zero, bigSep_sep', bigSep_sep', bigSep_sep', bigSep_empty]
  iintro ⟨HR, HO, HtS, HtV, ⟨Hown, Hsl⟩, Hrows⟩
  isplitr [Hown]
  · isplitl [HR]; · iexact HR
    isplitl [HO]; · iexact HO
    isplitl
    · isplitl [HtS]; · iexact HtS
      isplitl [HtV]; · iexact HtV
      isplitl [Hsl]; · iexact Hsl
      iexact Hrows
    iempintro
  iexact Hown

omit [FloatOps F] in
theorem send_elim : SendSt X K c 7 ⊢ iprop(Ow c 0 ∗ bigSep Finset.univ fun r : Fin 7 => cred (tallyAt (sendCell c (up c r)) () N)) := by
  unfold SendSt
  rw [done_seven, recvO_seven]
  iintro ⟨-, HO, -, Hcr⟩
  isplitl [HO] <;> iassumption

omit [FloatOps F] in
theorem recv_intro :
    iprop(records X K ∗ Ow c 0 ∗ (bigSep Finset.univ fun r : Fin 7 => cred (tallyAt (recvCell c (dn c r)) () N))
        ∗ bigSep Finset.univ fun r : Fin 7 => atPos ER (recvCell c (dn c r)) 0 ∅ 0)
      ⊢ RecvSt X K c 0 := by
  unfold RecvSt
  rw [todo_zero, done_zero, bigSep_sep', bigSep_empty]
  iintro ⟨HR, HO, Hcr, Hat⟩
  isplitl [HR]; · iexact HR
  isplitl [HO]; · iexact HO
  isplitl
  · isplitl [Hcr] <;> iassumption
  iempintro

omit [FloatOps F] in
/-- Everything received: with the own row block, the output is whole and holds what it is to. -/
theorem recv_elim : iprop(RecvSt X K c 7 ∗ rowPts c c (outOf X c))
    ⊢ iprop(Ow c 0 ∗ (((c : Thread nD τ).loc cc0_stg1_0) ↦{fullShare} outOf X c)
        ∗ bigSep Finset.univ fun r : Fin 7 => semVal (recvCell c (dn c r)) 0) := by
  rw [rows_eq, bigSep_dn c]
  unfold RecvSt
  rw [todo_seven, done_seven, bigSep_sep' Finset.univ]
  iintro ⟨⟨-, HO, -, Hrows, Hz⟩, Hown⟩
  isplitl [HO]; · iexact HO
  isplitl [Hown Hrows]
  · isplitl [Hown] <;> iassumption
  iexact Hz

omit [FloatOps F] in
theorem back_intro :
    iprop(records X K ∗ Ow c 0 ∗ (bigSep Finset.univ fun r : Fin 7 => cred (tallyAt (sendCell c (up c r)) () N))
        ∗ bigSep Finset.univ fun r : Fin 7 => atPos ER (sendCell c (up c r)) 0 ∅ 0)
      ⊢ BackSt X K c 0 := by
  unfold BackSt
  rw [todo_zero, done_zero, bigSep_sep', bigSep_empty]
  iintro ⟨HR, HO, Hcr, Hat⟩
  isplitl [HR]; · iexact HR
  isplitl [HO]; · iexact HO
  isplitl
  · isplitl [Hcr] <;> iassumption
  iempintro

omit [FloatOps F] in
/-- Every slab back: with the unused one, the scratch is whole. -/
theorem back_elim : iprop(BackSt X K c 7 ∗ slabPts c c (commOf (X c)))
    ⊢ iprop(Ow c 0 ∗ (((c : Thread nD τ).loc cc0_scratch0) ↦{fullShare} commOf (X c))
        ∗ bigSep Finset.univ fun r : Fin 7 => semVal (sendCell c (up c r)) 0) := by
  rw [slabs_eq, bigSep_up c]
  unfold BackSt
  rw [todo_seven, done_seven, bigSep_sep' Finset.univ]
  iintro ⟨⟨-, HO, -, Hsl, Hz⟩, Hown⟩
  isplitl [HO]; · iexact HO
  isplitl [Hown Hsl]
  · isplitl [Hown] <;> iassumption
  iexact Hz

end Joins

set_option maxHeartbeats 4000000 in
set_option maxRecDepth 4000 in
/-- The body, from `bodyPre` to `bodyPost`, one step lemma per step of the printed program. -/
theorem sound_body (K : Dev nD × CI → ℕ) (c : Dev nD) (Kt : PUnit → sProp 𝕄) :
    iprop(bodyPre X K c ∗ (bodyPost X c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre linear payToks credits
  rw [bigSep_cells c]
  iintro ⟨⟨#HR, ⟨⟨HaB, ⟨HaS0, HaS⟩, HaV0, HaV⟩, HtB, HtS, HtV⟩, ⟨HcB, HcV⟩, #Hlev, HO, Hx, ⟨%fo, Hout⟩, ⟨%fc, Hscr⟩⟩, Hk⟩
  rw [cc0_body_eq_skeleton, cc0_body_skel, k0_part10_eq_skeleton, k0_part10_skel]
  simp only [wp_bind]
  -- the signals
  ihave H := (sig_intro X K c fo) $$ [HO HtB Hout]
  · isplitr; · iexact HR
    isplitl [HO]; · iexact HO
    isplitl [HtB] <;> iassumption
  icases H with ⟨HS, Hown⟩
  iapply (part1_run X K c) $$ HS; iintro HS
  try dsimp only
  -- the packing
  ihave HP := (pack_intro X c fc) $$ [Hx Hscr]
  · isplitl [Hx] <;> iassumption
  iapply (part2_run X K c) $$ [HS HP]
  · isplitl [HS] <;> iassumption
  iintro ⟨HS, HP⟩
  ihave HO := (sig_elim X K c) $$ HS
  iapply (part3_run X c (R := (((c : Thread nD τ).loc cc0_stg0_0) ↦{fullShare} X c))) $$ [HP Hown]
  · isplitl [HP]; · iexact HP
    iintro HP
    ihave H := (pack_elim X c fo) $$ [HP Hown]
    · isplitl [HP] <;> iassumption
    icases H with ⟨Hx, HP⟩
    isplitl [HP] <;> iassumption
  iintro ⟨HP, Hx⟩
  -- one's own block, the barrier, the first transfer
  iapply (part4_run X K c (R := iprop(slabPts c c (commOf (X c)) ∗ rowPts c c (outOf X c) ∗ semVal (barCell c) 0))) $$ [HP HO HcB HaB HtS HtV]
  · isplitl [HP]; · iexact HP
    isplitl [HO HcB HaB]
    · isplitr; · iexact HR
      isplitr; · iexact Hlev
      isplitl [HO]; · iexact HO
      isplitl [HcB] <;> iassumption
    iintro ⟨HP, HO, HzB, Hrows⟩
    ihave H := (own_elim X c) $$ HP
    icases H with ⟨Hscr, Hrow⟩
    ihave H := (send_intro X K c) $$ [HO HtS HtV Hscr Hrows]
    · isplitr; · iexact HR
      isplitl [HO]; · iexact HO
      isplitl [HtS]; · iexact HtS
      isplitl [HtV]; · iexact HtV
      isplitl [Hscr] <;> iassumption
    icases H with ⟨HP, Hsl⟩
    isplitl [HP]; · iexact HP
    isplitl [Hsl]; · iexact Hsl
    isplitl [Hrow] <;> iassumption
  iintro ⟨HP, Hsl, Hrow, HzB⟩
  try dsimp only
  iapply (part5_run X K c) $$ HP; iintro HP
  iapply (part6_run X K c) $$ HP; iintro HP
  -- the last transfer, the waits for the others' blocks
  iapply (part7_run X K c (R := bigSep Finset.univ fun r : Fin 7 => cred (tallyAt (sendCell c (up c r)) () N))) $$ [HP HcV HaV]
  · isplitl [HP]; · iexact HP
    iintro HP
    ihave H := (send_elim X K c) $$ HP
    icases H with ⟨HO, HcS⟩
    isplitr [HcS]
    · iapply (recv_intro X K c)
      isplitr; · iexact HR
      isplitl [HO]; · iexact HO
      isplitl [HcV] <;> iassumption
    iexact HcS
  iintro ⟨HP, HcS⟩
  try dsimp only
  iapply (part8_run X K c) $$ HP; iintro HP
  -- the waits for one's own slabs back
  iapply (part9_run X K c (R := iprop((((c : Thread nD τ).loc cc0_stg1_0) ↦{fullShare} outOf X c)
      ∗ bigSep Finset.univ fun r : Fin 7 => semVal (recvCell c (dn c r)) 0))) $$ [HP Hrow HcS HaS]
  · isplitl [HP]; · iexact HP
    iintro HP
    ihave H := (recv_elim X K c) $$ [HP Hrow]
    · isplitl [HP] <;> iassumption
    icases H with ⟨HO, Hout, HzV⟩
    isplitl [HO HcS HaS]
    · iapply (back_intro X K c)
      isplitr; · iexact HR
      isplitl [HO]; · iexact HO
      isplitl [HcS] <;> iassumption
    isplitl [Hout] <;> iassumption
  iintro ⟨HP, Hout, HzV⟩
  simp only [Prog.lift, Prog.bind_op, Prog.bind_ret, Prog.pure_eq_ret]
  iapply (back_step X K c 1 1 rfl (k0_off1_eq c 1)) $$ HP; iintro HP; iapply (run_ret c)
  iapply (back_step X K c 2 2 rfl (k0_off1_eq c 2)) $$ HP; iintro HP; iapply (run_ret c)
  iapply (back_step X K c 3 3 rfl (k0_off1_eq c 3)) $$ HP; iintro HP; iapply (run_ret c)
  iapply (back_step X K c 4 4 rfl (k0_off1_eq c 4)) $$ HP; iintro HP; iapply (run_ret c)
  iapply (back_step X K c 5 5 rfl (k0_off1_eq c 5)) $$ HP; iintro HP; iapply (run_ret c)
  -- the two cells no transfer uses
  imod (Rounds.cell_close ER (exRd X) (Set.mem_univ (K (c, .inr (.inl c)))) (fun h => h) (R := 0) (duties_unused_send X c)) $$ [HaS0] with HzS0
  · isplitr; · iapply (inv_of X K (c, .inr (.inl c))); iexact HR
    iexact HaS0
  imod (Rounds.cell_close ER (exRd X) (Set.mem_univ (K (c, .inr (.inr c)))) (fun h => h) (R := 0) (duties_unused_recv X c)) $$ [HaV0] with HzV0
  · isplitr; · iapply (inv_of X K (c, .inr (.inr c))); iexact HR
    iexact HaV0
  iapply (run_ret c)
  iapply (back_step X K c 6 6 rfl (k0_off1_eq c 6)) $$ HP; iintro HP; iapply (run_ret c)
  iapply (run_ret c)
  -- everything put together again
  ihave H := (back_elim X K c) $$ [HP Hsl]
  · isplitl [HP] <;> iassumption
  icases H with ⟨HO, Hscr, HzS⟩
  iapply Hk
  unfold bodyPost
  rw [bigSep_cells c]
  isplitl [HO]; · iexact HO
  isplitl [Hx]; · iexact Hx
  isplitl [Hout]; · iexact Hout
  isplitl [Hscr]; · iexact Hscr
  isplitl [HzB]; · iexact HzB
  isplitl [HzS0 HzS]
  · isplitl [HzS0] <;> iassumption
  isplitl [HzV0] <;> iassumption

end Cert.KernelIdeal.AllToAll

end
-- ==== Proof.Run.lean ====
/-
# The launch

The body's theorem joined to the pipeline library's launch theorem: the semaphores are given their cells, the tokens are
dealt to the devices that pay the duties, the credits to the devices that wait. `run_arrays` is the kernel's run: from any
memory with every counter at zero it ends, the call's arrays hold what the schedule says of them and every counter is zero.
-/
module

public import proofs.«01_k».proof.Proof.Walk
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The credits: each device owes the others exactly what they wait for -/

/-- Counting up by `r + 1` is a permutation of the devices. -/
def upE (r : Fin 7) : Dev nD ≃ Dev nD := ⟨(up · r), (dn · r), fun c => dn_up c r, fun c => up_dn c r⟩

/-- The credits device `c` starts with, as one tally. -/
def due (c : Dev nD) : CellTallies nD τ sig Unit :=
  tallyAt (barCell c) () 7 + ∑ r : Fin 7, tallyAt (recvCell c (dn c r)) () N

theorem seven_units (g : GSem nD τ sig) : (∑ _r : Fin 7, tallyAt g () 1 : CellTallies nD τ sig Unit) = tallyAt g () 7 := by
  refine funext fun g' => Finsupp.ext fun u => ?_
  rw [tallies_apply, tallyAt_apply]
  by_cases h : g' = g <;> simp [h]

/-- What all the devices owe is what all the devices wait for. -/
theorem sum_owed : ∑ d : Dev nD, O₀ d = ∑ d : Dev nD, due d := by
  unfold O₀ due recvO sigO
  rw [Finset.sum_add_distrib, Finset.sum_add_distrib, todo_zero, add_comm]
  congr 1
  · rw [← Finset.sum_congr rfl fun d _ => seven_units (barCell d)]
    exact Finset.sum_comm.trans (Eq.trans (Finset.sum_congr rfl fun (r : Fin 7) _ =>
      Equiv.sum_comp (upE r) fun d => (tallyAt (barCell d) () 1 : CellTallies nD τ sig Unit)) Finset.sum_comm)
  · refine Finset.sum_comm.trans (Eq.trans (Finset.sum_congr rfl fun (r : Fin 7) _ => ?_) Finset.sum_comm)
    refine Eq.trans (Finset.sum_congr rfl fun d _ => ?_) (Equiv.sum_comp (upE r) fun d => (tallyAt (recvCell d (dn d r)) () N : CellTallies nD τ sig Unit))
    show tallyAt (recvCell (up d r) d) () N = tallyAt (recvCell (up d r) (dn (up d r) r)) () N
    rw [dn_up]

theorem due_own (d : Dev nD) (g : GSem nD τ sig) (h : due d g ≠ 0) : g.1 = (d : Thread nD τ) := by
  by_contra hg
  refine h (Finsupp.ext fun u => ?_)
  unfold due
  rw [Pi.add_apply, Finsupp.add_apply, tallies_apply, tallyAt_apply, if_neg fun h' => hg (congrArg Prod.fst h'.1),
    Finset.sum_congr rfl fun r _ => if_neg fun h' => hg (congrArg Prod.fst h'), Finset.sum_const_zero]
  rfl

omit [FloatOps F] in
theorem creds (c : Dev nD) : (Pipeline.launchCred O₀ c : sProp 𝕄) ⊢ credits c := by
  rw [Pipeline.launchCred_of_sum O₀ due sum_owed due_own c]
  unfold due credits
  exact (cred_add _ _).1.trans (sep_mono_right (Entails.of_eq (Pipeline.cred_finsetSum _ _)))

/-! ## The proof data of the one grid point -/

section Data

variable (m : (ℓ : Loc nD τ sig) → Buf (Elt F) ℓ) (ρ : Dev nD → PrngReg)

/-- Every device's input, as staged. -/
def xs (c : Dev nD) : S256x2048.Idx → Elt F .bf16 :=
  (win0_0.blk (0 : Fin 1)).view.read (Elt F) ((s₀ m ρ).mem ((c : Thread nD τ).loc main_arg0))

/-- What a device has for the body besides its buffers. -/
def start (c : Dev nD) : sProp 𝕄 :=
  iprop((∃ K, records (xs m ρ) K ∗ linear c) ∗ credits c ∗ levAts L lv)

def scratch (c : Dev nD) : sProp 𝕄 :=
  iprop(∃ f : S8x256x256.Idx → Elt F .bf16, ((c : Thread nD τ).loc cc0_scratch0) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outOf (xs m ρ) c
  Φ t := match t with
    | ⟨0, _⟩ => iprop(start m ρ c ∗ scratch c)
    | ⟨_ + 1, _⟩ => iprop(scratch c ∗ bigSep Finset.univ fun k : CI => semVal (kcell (c, k)) 0)
  q _ := fullShare
  owed t := match t with
    | ⟨0, _⟩ => O₀ c
    | ⟨_ + 1, _⟩ => 0

/-- A staging buffer holding a given block. -/
abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

omit [FloatOps F] in
theorem owns_stg (c : Dev nD) (b : Ref sig .tc) (v : b.ty.Contents (Elt F)) :
    (owns (Ix := Unit) (Name := ℕ) (U := UU) (Lvl := ℕ) (c : Thread nD τ) (Memref.whole b) fullShare v : sProp 𝕄) = stg c b v := by
  unfold owns; simp only [Memref.view_whole, View.read_whole, View.set_whole]

/-- The input's staging buffer holds the input before the body. -/
theorem before_in (c : Dev nD) (d) : (dats m ρ 0 c).before (0 : Fin 2) t0_0 d = xs m ρ c := by
  unfold Dat.before; rw [if_pos (fetch0_0 t0_0)]; rfl

def obPre (c : Dev nD) : sProp 𝕄 :=
  iprop((start m ρ c ∗ scratch c) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def obPost (c : Dev nD) : sProp 𝕄 :=
  iprop((scratch c ∗ bigSep Finset.univ fun k : CI => semVal (kcell (c, k)) 0) ∗ (dats m ρ 0 c).owesAt () t0_0.succ
    ∗ stg c cc0_stg0_0 (xs m ρ c) ∗ stg c cc0_stg1_0 (outOf (xs m ρ) c))

set_option maxRecDepth 4000 in
/-- The body meets the pipeline library's obligation. -/
theorem body_obligation (c : Dev nD) : BodyObligation (dats (F := F) m ρ 0 c) (defs₀ (F := F)) 𝒱₀ () Set.univ := fun t => by
  rw [fin_N0 t, bigSep_W0, bigSep_W0]
  simp only [owns_stg]
  show obPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => obPost m ρ c)
  unfold obPre start scratch Dat.owesAt Pipeline.owesWithin
  rw [show (dats m ρ 0 c).owed t0_0.castSucc = O₀ c from rfl]
  iintro ⟨⟨⟨⟨%K, HR, Hl⟩, Hcr, Hlev⟩, Hscr⟩, ⟨%W, %hW, HO⟩, ⟨%d0, %g0, %hg0, Hx⟩, ⟨%d1, %g1, %hg1, Hout⟩⟩
  obtain rfl : g0 = xs m ρ c := hg0.trans (before_in m ρ c d0)
  iapply (sound_body (xs m ρ) K c fun _ => obPost m ρ c)
  isplitr []
  · unfold bodyPre Ow
    isplitl [HR]; · iexact HR
    isplitl [Hl]; · iexact Hl
    isplitl [Hcr]; · iexact Hcr
    isplitl [Hlev]; · iexact Hlev
    isplitl [HO]; · iexists W; iexact HO
    isplitl [Hx]; · iexact Hx
    isplitl [Hout]; · iexists g1; iexact Hout
    iexact Hscr
  unfold bodyPost Ow obPost scratch stg Dat.owesAt Pipeline.owesWithin
  rw [show (dats m ρ 0 c).owed t0_0.succ = 0 from rfl]
  iintro ⟨⟨%W', HO⟩, Hx, Hout, Hscr, Hz⟩
  isplitl [Hscr Hz]
  · isplitl [Hscr]
    · iexists (commOf (xs m ρ c)); iexact Hscr
    iexact Hz
  isplitl [HO]
  · iexists W'
    isplitr; · ipureintro; exact fun _ _ => Or.inl trivial
    iexact HO
  isplitl [Hx]
  · iexists (xs m ρ c)
    isplitr; · ipureintro; rfl
    iexact Hx
  iexists (outOf (xs m ρ) c)
  isplitr; · ipureintro; rfl
  iexact Hout

end Data

/-! ## The cells and the tokens -/

theorem ownSemFacts : Pipeline.OwnSemFacts cfg0.spec osem := by decide

theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  have h3 : k = k' := Option.some.inj ((cellAt_csem k).symm.trans ((congrArg cellAt h2).trans (cellAt_csem k')))
  rw [h1, h3]
def cells : Finset (GSem nD τ sig) := Finset.univ.map ⟨kcell, kcell_injective⟩

/-- A duty's token, by who pays it: device `c`'s signal to, or either credit of its transfer to, the device `r + 1` on. -/
abbrev payOf (p : Dev nD × (Fin 7 ⊕ (Fin 7 ⊕ Fin 7))) : (Dev nD × CI) × Dev nD := match p with
  | (c, .inl r) => ((up c r, .inl ()), c)
  | (c, .inr (.inl r)) => ((c, .inr (.inl (up c r))), 0)
  | (c, .inr (.inr r)) => ((up c r, .inr (.inr c)), 0)
theorem payOf_injective : Function.Injective payOf := by
  rintro ⟨c, r | r | r⟩ ⟨c', r' | r' | r'⟩ h <;> simp only [payOf, Prod.mk.injEq, Sum.inl.injEq, Sum.inr.injEq, reduceCtorEq, and_false, false_and, and_true] at h
  · obtain ⟨h1, rfl⟩ := h; rw [up_inj c h1]
  · obtain ⟨rfl, h1⟩ := h; rw [up_inj c h1]
  · obtain ⟨h1, rfl⟩ := h; rw [up_inj c h1]
abbrev tokOf (p : Dev nD × (Fin 7 ⊕ (Fin 7 ⊕ Fin 7))) : GSem nD τ sig × ℕ × Dev nD := (kcell (payOf p).1, 0, (payOf p).2)
theorem tokOf_injective : Function.Injective tokOf := fun p p' h =>
  payOf_injective (Prod.ext (kcell_injective (congrArg Prod.fst h)) (congrArg (fun x : GSem nD τ sig × ℕ × Dev nD => x.2.2) h))
def toks : Finset (GSem nD τ sig × ℕ × Dev nD) := Finset.univ.map ⟨tokOf, tokOf_injective⟩

def u₀ : UU := (initOf (Pipeline.cells cfgs cellOf_inj) (Pipeline.launchToks cfgs cellOf_inj), initOf cells toks)

section Launch

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-- A device's part of the launch's element: its cells' states and positions, the tokens it pays. -/
def dealt (c : Dev nD) : sProp 𝕄 :=
  iprop((bigSep Finset.univ fun k : CI => roundState ER (exRd (xs m ρ)) (kcell (c, k)) 0)
    ∗ (bigSep Finset.univ fun k : CI => reached ER (kcell (c, k)) 0) ∗ linear c)

omit [FloatOps F] in
theorem bigSep_cells_all (Φ : GSem nD τ sig → sProp 𝕄) :
    bigSep cells Φ = bigSep Finset.univ fun c : Dev nD => bigSep Finset.univ fun k : CI => Φ (kcell (c, k)) := by
  unfold cells; rw [bigSep_map, bigSep_univ_prod]; rfl

omit [FloatOps F] in
theorem bigSep_toks : bigSep toks (fun x => (dutyTok ER x.1 x.2.1 x.2.2 : sProp 𝕄)) = bigSep Finset.univ fun c : Dev nD => payToks c := by
  unfold toks; rw [bigSep_map, bigSep_univ_prod]
  refine bigSep_congr fun c _ => ?_
  rw [BI.bigSep_univ_sum, BI.bigSep_univ_sum]; rfl

theorem fund_cells : BI.own (ER (initOf cells toks)) ⊢ (|==> bigSep Finset.univ (dealt m ρ) : sProp 𝕄) := by
  iintro HX
  imod (Rounds.fund ER (exRd (xs m ρ)) cells toks) $$ HX with ⟨Hst, Hr, Hat, Htok⟩
  imodintro
  ihave Hst' := (Entails.of_eq (bigSep_cells_all fun g => roundState ER (exRd (xs m ρ)) g 0)) $$ Hst
  ihave Hat' := (Entails.of_eq (bigSep_cells_all fun g => atPos ER g 0 ∅ 0)) $$ Hat
  ihave Hr' := (Entails.of_eq (bigSep_cells_all fun g => reached ER g 0)) $$ Hr
  ihave Htok' := (Entails.of_eq (bigSep_toks (F := F))) $$ Htok
  unfold dealt linear
  rw [bigSep_sep' Finset.univ, bigSep_sep' Finset.univ, bigSep_sep' Finset.univ]
  isplitl [Hst']; · iexact Hst'
  isplitl [Hr']; · iexact Hr'
  isplitl [Hat'] <;> iassumption

omit [FloatOps F] in
/-- The counters at the start: the launch's one unscoped semaphore is the barrier, its own semaphores the transfer cells. -/
theorem sems_eq (c : Dev nD) :
    (bigSep Finset.univ fun k : CI => semVal (kcell (c, k)) 0 : sProp 𝕄)
      = iprop(unscopedSems0 c ∗ Pipeline.ownSems0 (Ix := Unit) (Name := ℕ) (U := UU) (Lvl := ℕ) (Val := Elt F) (τ := τ) osem c) := by
  unfold unscopedSems0 Pipeline.ownSems0
  rw [BI.bigSep_univ_sum, bigSep_univ_eq_bigSepL [()] (by decide) (by decide), bigSepL_singleton,
    bigSep_eq_bigSepL_of_eq [SemLoc.reg barS] (by decide) (by decide), bigSepL_singleton]
  rfl

theorem cells_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : CI => iprop(∃ κ : ℕ, cellInv ER (exRd (xs m ρ)) κ (kcell (c, k))))
          ∗ (bigSep Finset.univ fun k : CI => reached ER (kcell (c, k)) 0) ∗ linear c) := by
  unfold dealt
  iintro ⟨Hos, Hus, Hst, Hr, Hl⟩
  ihave Hv := (Entails.of_eq (sems_eq (F := F) c).symm) $$ [Hos Hus]
  · isplitl [Hus] <;> iassumption
  imod (show iprop((bigSep Finset.univ fun k : CI => semVal (kcell (c, k)) 0) ∗ bigSep Finset.univ fun k : CI => roundState ER (exRd (xs m ρ)) (kcell (c, k)) 0)
      ⊢ (|={Set.univ}=> bigSep Finset.univ fun k : CI => iprop(∃ κ : ℕ, cellInv ER (exRd (xs m ρ)) κ (kcell (c, k))) : sProp 𝕄) from by
        rw [← bigSep_sep']
        exact (bigSep_mono fun k _ => (Rounds.body_intro ER (exRd (xs m ρ)) (kcell (c, k))).trans inv_alloc).trans (bigSep_fupd _ _)) $$ [Hv Hst] with Hinv
  · isplitl [Hv] <;> iassumption
  imodintro
  isplitl [Hinv]; · iexact Hinv
  isplitl [Hr] <;> iassumption

omit [FloatOps F] in
/-- What all may share goes to each, beside what is its own. -/
theorem bigSep_share {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- Every cell's invariant known to every device. -/
theorem regroup :
    (bigSep Finset.univ fun c : Dev nD => iprop((bigSep Finset.univ fun k : CI => iprop(∃ κ : ℕ, cellInv ER (exRd (xs m ρ)) κ (kcell (c, k))))
          ∗ (bigSep Finset.univ fun k : CI => reached ER (kcell (c, k)) 0) ∗ linear c) : sProp 𝕄)
      ⊢ bigSep Finset.univ fun c : Dev nD => iprop(∃ K, records (xs m ρ) K ∗ linear c) := by
  rw [bigSep_sep', bigSep_sep', ← bigSep_univ_prod (fun ck : Dev nD × CI => iprop(∃ κ : ℕ, cellInv ER (exRd (xs m ρ)) κ (kcell ck))),
    ← bigSep_univ_prod (fun ck : Dev nD × CI => (reached ER (kcell ck) 0 : sProp 𝕄))]
  iintro ⟨HI, #HR, Hl⟩
  ihave HK := (BI.bigSep_exists_pi Finset.univ (fun (ck : Dev nD × CI) (κ : ℕ) => (cellInv ER (exRd (xs m ρ)) κ (kcell ck) : sProp 𝕄))) $$ HI
  icases HK with ⟨%K, #HI⟩
  iapply (bigSep_share (R := records (xs m ρ) K) (Φ := fun c => linear c)
    fun c => show _ ⊢ iprop(∃ K, records (xs m ρ) K ∗ linear c) by iintro H; iexists K; iexact H)
  isplitr
  · unfold records; isplitl; · iexact HI
    iexact HR
  iexact Hl

theorem glob : (bigSep Finset.univ fun c => iprop(Pipeline.ownSems0 (Ix := Unit) (Name := ℕ) (U := UU) (Lvl := ℕ) (Val := Elt F) (τ := τ) osem c
      ∗ unscopedSems0 c ∗ dealt m ρ c) : sProp 𝕄)
    ⊢ |={Set.univ}=> bigSep Finset.univ fun c : Dev nD => iprop(∃ K, records (xs m ρ) K ∗ linear c) :=
  ((bigSep_mono fun c _ => cells_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, records (xs m ρ) K ∗ linear c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  iempintro

theorem phi_entry (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, Hr⟩
  isplitl [Hs]; · iexact Hs
  iexact Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ bigSep Finset.univ fun k : CI => semVal (kcell (c, k)) 0) from rfl,
    scopedRest0_eq, sems_eq]
  unfold scratch
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays' contents at the end. -/
def finalA (c : Dev nD) (w : Fin cfg0.W) : Buf (Elt F) ((cfg0.win w).arr.view.loc (c : Thread nD τ)) := (dats m ρ 0 c).arrAt w cfg0.N

set_option maxRecDepth 8000 in
/-- On eight devices, whatever floats mean, from any memory with every counter at zero: every weakly fair execution of the
    eight kernels ends, with each device's arrays at `finalA` and every counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := dealt m ρ) (G' := fun c => iprop(∃ K, records (xs m ρ) K ∗ linear c)) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_entry m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Launch

end Cert.KernelIdeal.AllToAll

end
-- ==== Proof.Value.lean ====
/-
# What the exchange computes, and the kernel's claims

If every device's input is its row block of one array, every device's result is its column block of the same array. The
kernel's run, stated over its arrays by name: at any meaning of floats for the frame, and with the value.
-/
module

public import proofs.«01_k».proof.Proof.Run
public import Idealize.ShloMosaic.Lib.Layout

@[expose] public section

noncomputable section

namespace Cert.KernelIdeal.AllToAll

open Cert.KernelIdeal Cert.KernelIdeal.Gen

open Idealize.ShloMosaic
open Idealize.ShloMosaic.TcCoe
open Idealize.SL.Sem

variable {F : FTy → Type} [FloatOps F]

/-- Element `(256 s + r, l)` of device `c`'s result is element `(r, 256 c + l)` of device `s`'s input; in the whole array both
    are element `(256 s + r, 256 c + l)`. -/
theorem outOf_blocks (V : (⟨2, ![2048, 2048]⟩ : Shape).Idx → Elt F .bf16) (c : Dev nD) :
    outOf (fun s => Layout.block ⟨2, ![256, 2048]⟩ ⟨2, ![2048, 2048]⟩ 0 8 s V) c
      = Layout.block ⟨2, ![2048, 256]⟩ ⟨2, ![2048, 2048]⟩ 1 8 c V := by
  funext i
  unfold outOf
  beta_reduce
  rw [Layout.block_apply, Layout.block_apply]
  refine congrArg V (funext fun a => Fin.ext ?_)
  match a with
  | ⟨0, _⟩ => exact Nat.div_add_mod' (i 0).val 256
  | ⟨1, _⟩ => exact congrArg (· + (i 1).val) (Nat.mul_comm 256 c.val)

section Final

variable (m : (ℓ : Loc nD τ sig) → Buf (Elt F) ℓ) (ρ : Dev nD → PrngReg)

omit [FloatOps F] in
/-- What a device stages is its input array as launched. -/
theorem xs_eq (c : Dev nD) : xs m ρ c = m ((c : Thread nD τ).loc main_arg0) :=
  Memref.read_access_unit_zero (Elt F) main_arg0 (funext fun a => by fin_cases a <;> decide) (fun a => by fin_cases a <;> decide) _

theorem finalA_in (c : Dev nD) : finalA m ρ c (0 : Fin 2) = m ((c : Thread nD τ).loc main_arg0) :=
  (dats (F := F) m ρ 0 c).arrAt_in (0 : Fin 2) rfl _

/-- The result array ends with what the body left in its staging buffer. -/
theorem finalA_out (c : Dev nD) : finalA m ρ c (1 : Fin 2) = outOf (xs m ρ) c := by
  have hr := Memref.read_access_unit_zero (Elt F) main_v1 (off := fun a => win0_1.index (0 : Fin 1) a * main_v1.ty.shape.size a)
    (funext fun a => by fin_cases a <;> decide) (fun a => by fin_cases a <;> decide) (finalA m ρ c (1 : Fin 2))
  refine hr.symm.trans ?_
  unfold finalA
  rw [show cfg0.N = ((0 : Fin 1) : Fin cfg0.N).val + 1 from rfl, (dats m ρ 0 c).arrAt_succ (1 : Fin 2) (0 : Fin 1),
    if_pos (flush0_1 (0 : Fin 1))]
  exact View.read_write_univ _ _

/-- The kernel's run: it ends, each device's result is `outOf` of the inputs, the inputs are as they were and every counter
    is zero. -/
theorem run_main : θ_run defs (onTc (τ := τ) (main (F := F))) ⟨m, fun _ => 0, ρ⟩ (fun r =>
    (∀ c : Dev nD, r.2.mem ((c : Thread nD τ).loc main_v1) = outOf (fun s => m ((s : Thread nD τ).loc main_arg0)) c
      ∧ r.2.mem ((c : Thread nD τ).loc main_arg0) = m ((c : Thread nD τ).loc main_arg0))
    ∧ r.2.sem = fun _ => 0) :=
  (θ_run defs _ _).mono (fun _ h =>
    ⟨fun c => ⟨(h.1 c (1 : Fin 2)).trans ((finalA_out m ρ c).trans (congrArg (outOf · c) (funext fun s => xs_eq m ρ s))), (h.1 c (0 : Fin 2)).trans (finalA_in m ρ c)⟩, h.2⟩)
    (run_arrays (F := F) m ρ)

/-- Of that run, the frame: it ends, the inputs are as they were and every counter is zero. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_main (F := F) m ρ)

end Final

end Cert.KernelIdeal.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.SameText
public import proofs.«01_k».proof.Proof.Reference
public import proofs.«01_k».proof.Proof.Value
public import Idealize.ShloMosaic.Adequacy
public import Idealize.ShloMosaic.Init

@[expose] public section

noncomputable section

namespace Cert.Proof

open Idealize.ShloMosaic Idealize.SL.Sem Cert.Kernel

open Cert.KernelIdeal.AllToAll (outOf outOf_blocks)

/-- The kernel as printed, over machine words: it ends, its input is as it was and every counter is zero. Its text is the
    idealized kernel's, whose run holds whatever floats mean. -/
theorem frame_kernel : Cert.quiescent_Kernel := fun m ρ _ =>
  (congrArg (fun D => θ_run D (onTc (τ := Cert.Kernel.τ) (Cert.Kernel.main (F := Bits))) ⟨m, fun _ => 0, ρ⟩ fun r =>
    (∀ c : Dev Cert.Kernel.nD, r.2.mem ((c.tc : Thread Cert.Kernel.nD Cert.Kernel.τ).loc Cert.Kernel.main_arg0)
      = m ((c.tc : Thread Cert.Kernel.nD Cert.Kernel.τ).loc Cert.Kernel.main_arg0)) ∧ r.2.sem = fun _ => 0)
    (Cert.Kernel.AllToAll.defs_eq (F := Bits))).mpr (Cert.KernelIdeal.AllToAll.run_frame (F := Bits) m ρ)

/-- The idealized kernel: it ends, its input is as it was and every counter is zero. -/
theorem frame_kernelIdeal : Cert.quiescent_KernelIdeal := fun m ρ _ =>
  Cert.KernelIdeal.AllToAll.run_frame (F := Ideal) m ρ

/-- The reference: it ends, its input is as it was and every counter is zero. -/
theorem frame_referenceIdeal : Cert.quiescent_ReferenceIdeal := fun m ρ _ =>
  Cert.ReferenceIdeal.Identity.run_main (F := Ideal) m ρ

/-- The idealization rewrote nothing. -/
theorem preserves : Cert.preserves_Kernel_KernelIdeal := trivial

/-- The value: every device's result is its column block of the array whose row blocks the devices were given, which is what
    the reference returns. -/
theorem algebraic : Cert.algebraic_KernelIdeal_ReferenceIdeal := by
  intro m ρ m' ρ' _ hin
  refine ⟨m' (((0 : Dev Cert.ReferenceIdeal.nD).tc : Thread Cert.ReferenceIdeal.nD Cert.ReferenceIdeal.τ).loc Cert.ReferenceIdeal.main_arg0), ?_, ?_⟩
  · refine (θ_run Cert.KernelIdeal.defs _ _).mono (fun _ h c => ⟨(h.1 c).1.trans ?_, (h.1 c).2⟩)
      (Cert.KernelIdeal.AllToAll.run_main (F := Ideal) m ρ)
    exact (congrArg (outOf · c) (funext hin)).trans (outOf_blocks _ c)
  · exact (θ_run Cert.ReferenceIdeal.defs _ _).mono (fun _ h => ⟨h.1 0, h.1 0⟩)
      (Cert.ReferenceIdeal.Identity.run_main (F := Ideal) m' ρ')

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
